-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S8192x1 : Shape := ⟨2, ![8192, 1]⟩
abbrev S8192 : Shape := ⟨1, ![8192]⟩
abbrev S_ : Shape := ⟨0, ![]⟩

class Facts : Prop where
  slices_S8192x2_S8192x1_0_0 : S8192x2.Slices ![0, 0] S8192x1
  shapeCasts_S8192x1_S8192 : S8192x1.ShapeCasts S8192
  bcast_S8192_S8192x1_0 : S8192.BroadcastsInDim S8192x1 (![0] : Fin 1 → Fin S8192x1.rank)
  bcast_S_S8192x1 : S_.BroadcastsInDim S8192x1 (![] : Fin 0 → Fin S8192x1.rank)
  slices_S8192x2_S8192x1_0_1 : S8192x2.Slices ![0, 1] S8192x1
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)

variable [Facts]

def fn {F : FTy → Type} [FloatOps F] (main_arg0 : FVec F S8192x2048 .f32) (main_arg1 : IVec S8192x2 32) (main_arg2 : FVec F S8192x2 .f32) : IVec S8192x2048 1 :=
  let main_v0 : FVec F S8192x1 .f32 := (extractStridedSlice S8192x1 ![0, 0] · slices_S8192x2_S8192x1_0_0) main_arg2
  let main_v1 : FVec F S8192 .f32 := shapeCast S8192 main_v0 shapeCasts_S8192x1_S8192
  let main_v2 : FVec F S8192 .f32 := Host.absf main_v1
  let main_v3 : FVec F S8192x1 .f32 := broadcastInDim S8192x1 ![0] bcast_S8192_S8192x1_0 main_v2
  let main_cst : FVec F S_ .f32 := constant S_ .f32 0x7F800000#32
  let main_v4 : FVec F S8192x1 .f32 := broadcastInDim S8192x1 ![] bcast_S_S8192x1 main_cst
  let main_v5 : IVec S8192x1 1 := cmpf .olt main_v3 main_v4
  let main_v6 : FVec F S8192x1 .f32 := (extractStridedSlice S8192x1 ![0, 1] · slices_S8192x2_S8192x1_0_1) main_arg2
  let main_v7 : FVec F S8192 .f32 := shapeCast S8192 main_v6 shapeCasts_S8192x1_S8192
  let main_v8 : FVec F S8192 .f32 := Host.absf main_v7
  let main_v9 : FVec F S8192x1 .f32 := broadcastInDim S8192x1 ![0] bcast_S8192_S8192x1_0 main_v8
  let main_cst_0 : FVec F S_ .f32 := constant S_ .f32 0x7F800000#32
  let main_v10 : FVec F S8192x1 .f32 := broadcastInDim S8192x1 ![] bcast_S_S8192x1 main_cst_0
  let main_v11 : IVec S8192x1 1 := cmpf .olt main_v9 main_v10
  let main_v12 : FVec F S8192x2048 .f32 := Host.absf main_arg0
  let main_cst_1 : FVec F S_ .f32 := constant S_ .f32 0x7F800000#32
  let main_v13 : FVec F S8192x2048 .f32 := broadcastInDim S8192x2048 ![] bcast_S_S8192x2048 main_cst_1
  let main_v14 : IVec S8192x2048 1 := cmpf .olt main_v12 main_v13
  let main_v15 : IVec S8192x2048 1 := broadcastInDim S8192x2048 ![0, 1] bcast_S8192x1_S8192x2048_0_1 main_v5
  let main_v16 : IVec S8192x2048 1 := andi main_v14 main_v15
  let main_v17 : IVec S8192x2048 1 := broadcastInDim S8192x2048 ![0, 1] bcast_S8192x1_S8192x2048_0_1 main_v11
  let main_v18 : IVec S8192x2048 1 := andi main_v16 main_v17
  main_v18
-- ==== Kernel.lean ====
abbrev S8192x2048 : Shape := ⟨2, ![8192, 2048]⟩
abbrev S8192x2 : Shape := ⟨2, ![8192, 2]⟩
abbrev S3x1024x2048 : Shape := ⟨3, ![3, 1024, 2048]⟩
abbrev S8192x1 : Shape := ⟨2, ![8192, 1]⟩
abbrev S3 : Shape := ⟨1, ![3]⟩
abbrev S8192 : Shape := ⟨1, ![8192]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1024x1 : Shape := ⟨2, ![1024, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S8192x2, .i32⟩
  | .hbm, ⟨2, _⟩ => ⟨S8192x2, .f32⟩
  | .hbm, ⟨3, _⟩ => ⟨S8192x2048, .f32⟩
  | .local _ .vmem, ⟨0, _⟩ => ⟨S8192x2, .f32⟩
  | .local _ .vmem, ⟨1, _⟩ => ⟨S3x1024x2048, .f32⟩
  | .local _ .vmem, ⟨2, _⟩ => ⟨S3x1024x2048, .f32⟩
  | .local _ .vmem, ⟨3, _⟩ => ⟨S8192x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_16 : BitVec 32 := 0#32
  let c8_i32 : BitVec 32 := 8#32
  let v21 : BitVec 32 := Scalar.addi c0_i32_16 c8_i32
  let c1_i32_17 : BitVec 32 := 1#32
  ⟨c0_i32_16, v21, c1_i32_17⟩
def k0_off1 (k0_t1 : Fin k0_t1_loop.trips) : Fin 1 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  ![v40.toNat]
def k0_off2 (k0_t1 : Fin k0_t1_loop.trips) : Fin 3 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  let c0_i32_32 : BitVec 32 := 0#32
  let c0_i32_33 : BitVec 32 := 0#32
  ![v40.toNat, 0, 0]
def k0_off3 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let c1024_i32_31 : BitVec 32 := 1024#32
  let v41 : BitVec 32 := Scalar.muli arg8 c1024_i32_31
  let c0_i32_34 : BitVec 32 := 0#32
  ![v41.toNat, 0]
def k0_cond1 (k0_t1 : Fin k0_t1_loop.trips) : BitVec 1 :=
  let c0_i32_16 : BitVec 32 := 0#32
  let c1_i32_17 : BitVec 32 := 1#32
  let arg8 : BitVec 32 := Scf.iv c0_i32_16 c1_i32_17 k0_t1
  let c3_i32_35 : BitVec 32 := 3#32
  let v47 : BitVec 1 := Scalar.cmpi .sge arg8 c3_i32_35
  let v48 : BitVec 32 := Scalar.extui v47
  let c0_i32_36 : BitVec 32 := 0#32
  let v49 : BitVec 1 := Scalar.cmpi .ne v48 c0_i32_36
  v49

def k0_off4 (k0_t1 : Fin k0_t1_loop.trips) : Fin 1 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  ![v40.toNat]
def k0_off5 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let c3_i32_50 : BitVec 32 := 3#32
  let v72 : BitVec 32 := Scalar.subi arg8 c3_i32_50
  let c1024_i32_51 : BitVec 32 := 1024#32
  let v73 : BitVec 32 := Scalar.muli v72 c1024_i32_51
  let c0_i32_52 : BitVec 32 := 0#32
  ![v73.toNat, 0]
def k0_off6 (k0_t1 : Fin k0_t1_loop.trips) : Fin 3 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  let c0_i32_53 : BitVec 32 := 0#32
  let c0_i32_54 : BitVec 32 := 0#32
  ![v40.toNat, 0, 0]
def k0_off7 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let c1024_i32_37 : BitVec 32 := 1024#32
  let v50 : BitVec 32 := Scalar.muli arg8 c1024_i32_37
  let v51 : Index := Scalar.indexCast v50
  let c0_38 : Index := 0#32
  ![v51.toNat, 0]
def k0_off8 (k0_t1 : Fin k0_t1_loop.trips) : Fin 3 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  let v53 : Index := Scalar.indexCast v40
  let c0_39 : Index := 0#32
  let c0_40 : Index := 0#32
  ![v53.toNat, 0, 0]
def k0_cond2 (k0_t1 : Fin k0_t1_loop.trips) : BitVec 1 :=
  let c0_i32_16 : BitVec 32 := 0#32
  let c1_i32_17 : BitVec 32 := 1#32
  let arg8 : BitVec 32 := Scf.iv c0_i32_16 c1_i32_17 k0_t1
  let c3_i32_47 : BitVec 32 := 3#32
  let v68 : BitVec 32 := Scalar.addi arg8 c3_i32_47
  let c8_i32_48 : BitVec 32 := 8#32
  let v69 : BitVec 1 := Scalar.cmpi .slt v68 c8_i32_48
  let v70 : BitVec 32 := Scalar.extui v69
  let c0_i32_49 : BitVec 32 := 0#32
  let v71 : BitVec 1 := Scalar.cmpi .ne v70 c0_i32_49
  v71

def k0_off9 (k0_t1 : Fin k0_t1_loop.trips) : Fin 1 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  ![v40.toNat]
def k0_off10 (k0_t1 : Fin k0_t1_loop.trips) : Fin 3 → Nat :=
  let c0_i32_16 : BitVec 32 := 0#32
  let c1_i32_17 : BitVec 32 := 1#32
  let arg8 : BitVec 32 := Scf.iv c0_i32_16 c1_i32_17 k0_t1
  let c3_i32_30 : BitVec 32 := 3#32
  let v40 : BitVec 32 := Scalar.remsi arg8 c3_i32_30
  let c0_i32_52 : BitVec 32 := 0#32
  let c0_i32_53 : BitVec 32 := 0#32
  ![v40.toNat, 0, 0]
def k0_off11 (k0_t1 : Fin k0_t1_loop.trips) : Fin 2 → Nat :=
  let c0_i32_16 : BitVec 32 := 0#32
  let c1_i32_17 : BitVec 32 := 1#32
  let arg8 : BitVec 32 := Scf.iv c0_i32_16 c1_i32_17 k0_t1
  let c3_i32_50 : BitVec 32 := 3#32
  let v72 : BitVec 32 := Scalar.addi arg8 c3_i32_50
  let c1024_i32_51 : BitVec 32 := 1024#32
  let v73 : BitVec 32 := Scalar.muli v72 c1024_i32_51
  let c0_i32_54 : BitVec 32 := 0#32
  ![v73.toNat, 0]
def k0_off12 (c5_i32 : BitVec 32) : Fin 1 → Nat :=
  let c3_i32 : BitVec 32 := 3#32
  let v22 : BitVec 32 := Scalar.remsi c5_i32 c3_i32
  ![v22.toNat]
def k0_off13 (c5_i32 : BitVec 32) : Fin 3 → Nat :=
  let c3_i32 : BitVec 32 := 3#32
  let v22 : BitVec 32 := Scalar.remsi c5_i32 c3_i32
  let c0_i32_20 : BitVec 32 := 0#32
  let c0_i32_21 : BitVec 32 := 0#32
  ![v22.toNat, 0, 0]
abbrev stage0_0 : Fin 1 → Memref sig .tc .vmem S8192x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S8192x2 : Shape := ⟨2, ![8192, 2]⟩
abbrev S8192x1x2048 : Shape := ⟨3, ![8192, 1, 2048]⟩
abbrev S8192x2x2048 : Shape := ⟨3, ![8192, 2, 2048]⟩
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S8192x2x1 : Shape := ⟨3, ![8192, 2, 1]⟩

abbrev nBuf : Space → Nat
  | .hbm => 148
  | .vmem => 0
  | .smem => 0
  | _ => 0

abbrev hbmTy0_0 (i : Nat) : BufTy := match i % 128 with
  | 0 => ⟨S8192x2048, .f32⟩
  | 1 => ⟨S8192x2, .i32⟩
  | 2 => ⟨S8192x2, .f32⟩
  | 3 => ⟨S8192x1x2048, .f32⟩
  | 4 => ⟨S8192x2x2048, .f32⟩
  | 5 => ⟨S16384x2048, .f32⟩
  | 6 => ⟨S16384, .i32⟩
  | 7 => ⟨S16384, .i32⟩
  | 8 => ⟨S16384, .i32⟩
  | 9 => ⟨S16384, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S1, .i32⟩
  | 19 => ⟨S_, .i32⟩
  | 20 => ⟨S16384x1, .i32⟩
  | 21 => ⟨S16384x1, .i1⟩
  | 22 => ⟨S1x1, .i32⟩
  | 23 => ⟨S16384x1, .i32⟩
  | 24 => ⟨S16384x1, .i1⟩
  | 25 => ⟨S16384x1, .i1⟩
  | 26 => ⟨S_, .i1⟩
  | 27 => ⟨S16384, .i1⟩
  | 28 => ⟨S16384x2048, .f32⟩
  | 29 => ⟨S16384x2048, .i1⟩
  | 30 => ⟨S_, .f32⟩
  | 31 => ⟨S16384x2048, .f32⟩
  | 32 => ⟨S16384x2048, .f32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384, .i32⟩
  | 52 => ⟨S_, .i32⟩
  | 53 => ⟨S16384, .i32⟩
  | 54 => ⟨S16384, .i32⟩
  | 55 => ⟨S16384, .i32⟩
  | 56 => ⟨S16384, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i32⟩
  | 64 => ⟨S16384, .i32⟩
  | 65 => ⟨S16384x1, .i32⟩
  | 66 => ⟨S1, .i32⟩
  | 67 => ⟨S_, .i32⟩
  | 68 => ⟨S16384x1, .i32⟩
  | 69 => ⟨S16384x1, .i1⟩
  | 70 => ⟨S1x1, .i32⟩
  | 71 => ⟨S16384x1, .i32⟩
  | 72 => ⟨S16384x1, .i1⟩
  | 73 => ⟨S16384x1, .i1⟩
  | 74 => ⟨S_, .i1⟩
  | 75 => ⟨S16384, .i1⟩
  | 76 => ⟨S16384x2048, .f32⟩
  | 77 => ⟨S16384x2048, .i1⟩
  | 78 => ⟨S_, .f32⟩
  | 79 => ⟨S16384x2048, .f32⟩
  | 80 => ⟨S16384x2048, .f32⟩
  | 81 => ⟨S16384, .i32⟩
  | 82 => ⟨S16384, .i32⟩
  | 83 => ⟨S16384, .i32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S16384x2048, .f32⟩
  | 103 => ⟨S16384x2048, .i1⟩
  | 104 => ⟨S_, .f32⟩
  | 105 => ⟨S16384x2048, .f32⟩
  | 106 => ⟨S16384x2048, .f32⟩
  | 107 => ⟨S_, .i32⟩
  | 108 => ⟨S16384, .i32⟩
  | 109 => ⟨S16384, .i32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384, .i32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S1, .i32⟩
  | _ => ⟨S8192x2048, .f32⟩

abbrev hbmTy0_1 (i : Nat) : BufTy := match i % 128 with
  | 0 => ⟨S_, .i32⟩
  | 1 => ⟨S16384x1, .i32⟩
  | 2 => ⟨S16384x1, .i1⟩
  | 3 => ⟨S1x1, .i32⟩
  | 4 => ⟨S16384x1, .i32⟩
  | 5 => ⟨S16384x1, .i1⟩
  | 6 => ⟨S16384x1, .i1⟩
  | 7 => ⟨S_, .i1⟩
  | 8 => ⟨S16384, .i1⟩
  | 9 => ⟨S16384x2048, .f32⟩
  | 10 => ⟨S16384x2048, .i1⟩
  | 11 => ⟨S_, .f32⟩
  | 12 => ⟨S16384x2048, .f32⟩
  | 13 => ⟨S16384x2048, .f32⟩
  | 14 => ⟨S8192x2x2048, .f32⟩
  | 15 => ⟨S8192x2x1, .f32⟩
  | 16 => ⟨S8192x2x2048, .f32⟩
  | 17 => ⟨S8192x2x2048, .f32⟩
  | 18 => ⟨S_, .f32⟩
  | 19 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1_0 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v5 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_c_4 : Ref sig .tc := ⟨.hbm, 52, rfl⟩
abbrev main_call2_v14 : Ref sig .tc := ⟨.hbm, 53, rfl⟩
abbrev main_v6 : Ref sig .tc := ⟨.hbm, 54, rfl⟩
abbrev main_call3_v0 : Ref sig .tc := ⟨.hbm, 55, rfl⟩
abbrev main_call3_v1_0 : Ref sig .tc := ⟨.hbm, 56, rfl⟩
abbrev main_v7 : Ref sig .tc := ⟨.hbm, 57, rfl⟩
abbrev main_call4_c : Ref sig .tc := ⟨.hbm, 58, rfl⟩
abbrev main_call4_v0 : Ref sig .tc := ⟨.hbm, 59, rfl⟩
abbrev main_call4_v1 : Ref sig .tc := ⟨.hbm, 60, rfl⟩
abbrev main_call4_c_0 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c_1 : Ref sig .tc := ⟨.hbm, 66, rfl⟩
abbrev main_call4_c_2 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_call4_v11 : Ref sig .tc := ⟨.hbm, 73, rfl⟩
abbrev main_call4_c_3 : Ref sig .tc := ⟨.hbm, 74, rfl⟩
abbrev main_call4_v12 : Ref sig .tc := ⟨.hbm, 75, rfl⟩
abbrev main_call4_v13 : Ref sig .tc := ⟨.hbm, 76, rfl⟩
abbrev main_call4_v14 : Ref sig .tc := ⟨.hbm, 77, rfl⟩
abbrev main_call4_cst : Ref sig .tc := ⟨.hbm, 78, rfl⟩
abbrev main_call4_v15 : Ref sig .tc := ⟨.hbm, 79, rfl⟩
abbrev main_v8 : Ref sig .tc := ⟨.hbm, 80, rfl⟩
abbrev main_call5_v0 : Ref sig .tc := ⟨.hbm, 81, rfl⟩
abbrev main_call5_v1_0 : Ref sig .tc := ⟨.hbm, 82, rfl⟩
abbrev main_v9 : Ref sig .tc := ⟨.hbm, 83, rfl⟩
abbrev main_call6_c : Ref sig .tc := ⟨.hbm, 84, rfl⟩
abbrev main_call6_v0 : Ref sig .tc := ⟨.hbm, 85, rfl⟩
abbrev main_call6_v1 : Ref sig .tc := ⟨.hbm, 86, rfl⟩
abbrev main_call6_c_0 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_c_1 : Ref sig .tc := ⟨.hbm, 92, rfl⟩
abbrev main_call6_c_2 : Ref sig .tc := ⟨.hbm, 93, rfl⟩
abbrev main_call6_v6 : Ref sig .tc := ⟨.hbm, 94, rfl⟩
abbrev main_call6_v7 : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_v11 : Ref sig .tc := ⟨.hbm, 99, rfl⟩
abbrev main_call6_c_3 : Ref sig .tc := ⟨.hbm, 100, rfl⟩
abbrev main_call6_v12 : Ref sig .tc := ⟨.hbm, 101, rfl⟩
abbrev main_call6_v13 : Ref sig .tc := ⟨.hbm, 102, rfl⟩
abbrev main_call6_v14 : Ref sig .tc := ⟨.hbm, 103, rfl⟩
abbrev main_call6_cst : Ref sig .tc := ⟨.hbm, 104, rfl⟩
abbrev main_call6_v15 : Ref sig .tc := ⟨.hbm, 105, rfl⟩
abbrev main_v10 : Ref sig .tc := ⟨.hbm, 106, rfl⟩
abbrev main_c : Ref sig .tc := ⟨.hbm, 107, rfl⟩
abbrev main_v11 : Ref sig .tc := ⟨.hbm, 108, rfl⟩
abbrev main_v12 : Ref sig .tc := ⟨.hbm, 109, rfl⟩
abbrev main_c_0 : Ref sig .tc := ⟨.hbm, 110, rfl⟩
abbrev main_v13 : Ref sig .tc := ⟨.hbm, 111, rfl⟩
abbrev main_v14 : Ref sig .tc := ⟨.hbm, 112, rfl⟩
abbrev main_c_1 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_call7_c : Ref sig .tc := ⟨.hbm, 119, rfl⟩
abbrev main_call7_v0 : Ref sig .tc := ⟨.hbm, 120, rfl⟩
abbrev main_call7_v1 : Ref sig .tc := ⟨.hbm, 121, rfl⟩
abbrev main_call7_c_0 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_c_1 : Ref sig .tc := ⟨.hbm, 127, rfl⟩
abbrev main_call7_c_2 : Ref sig .tc := ⟨.hbm, 128, rfl⟩
abbrev main_call7_v6 : Ref sig .tc := ⟨.hbm, 129, rfl⟩
abbrev main_call7_v7 : Ref sig .tc := ⟨.hbm, 130, rfl⟩
abbrev main_call7_v8 : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_3 : Ref sig .tc := ⟨.hbm, 135, rfl⟩
abbrev main_call7_v12 : Ref sig .tc := ⟨.hbm, 136, rfl⟩
abbrev main_call7_v13 : Ref sig .tc := ⟨.hbm, 137, rfl⟩
abbrev main_call7_v14 : Ref sig .tc := ⟨.hbm, 138, rfl⟩
abbrev main_call7_cst : Ref sig .tc := ⟨.hbm, 139, rfl⟩
abbrev main_call7_v15 : Ref sig .tc := ⟨.hbm, 140, rfl⟩
abbrev main_v20 : Ref sig .tc := ⟨.hbm, 141, rfl⟩
abbrev main_v21 : Ref sig .tc := ⟨.hbm, 142, rfl⟩
abbrev main_v22 : Ref sig .tc := ⟨.hbm, 143, rfl⟩
abbrev main_v23 : Ref sig .tc := ⟨.hbm, 144, rfl⟩
abbrev main_v24 : Ref sig .tc := ⟨.hbm, 145, rfl⟩
abbrev main_cst : Ref sig .tc := ⟨.hbm, 146, rfl⟩
abbrev main_v25 : Ref sig .tc := ⟨.hbm, 147, rfl⟩

abbrev nD : Nat := 1
abbrev τ : Topo := Topo.v7x

variable {F : FTy → Type} [FloatOps F]
-- ==== Proof.RingIdeal.lean ====
/-
  The run of `KernelIdeal` for any float values: a reading ring of three slots running three blocks ahead, a writing
  ring of three slots waited three trips behind, and a column of row scales computed once before the loop.

  The eight blocks are the eight groups of 1024 rows. Before trip `k` the input blocks `k`, `k + 1`, `k + 2` are on
  their way into the reading slots, the output blocks `k - 3`, `k - 2`, `k - 1` are on their way out of the writing
  slots, the output blocks before those already hold the result, and the ones from `k` on hold anything. The result is
  one function of the arguments, `scaled`, named before any block is written, so every block is held at the same
  function and the blocks join to the whole array at it.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.VecWindow
public import Idealize.ShloMosaic.Lib.ViewIndex
public import Idealize.ShloMosaic.Lib.Pipeline.Value
public import Idealize.ShloMosaic.Lib.Pointwise.Index
public import Idealize.ShloMosaic.Lib.Tactic

@[expose] public section

set_option maxRecDepth 16384

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: what the launch library keeps, beside the counters the kernel's own copies are tracked with. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem to_entails {P Q : sProp 𝕄} (e : P = Q) : P ⊢ Q := e ▸ .rfl

/-! ## Blocks, slots and cells by number -/

abbrev hM : Memref sig .tc .hbm S8192x2048 .f32 := Memref.whole main_arg0
abbrev oM : Memref sig .tc .hbm S8192x2048 .f32 := Memref.whole main_v0
abbrev inM : Memref sig .tc .vmem S3x1024x2048 .f32 := Memref.whole cc0_scratch0
abbrev outM : Memref sig .tc .vmem S3x1024x2048 .f32 := Memref.whole cc0_scratch1
abbrev scM : Memref sig .tc .vmem S8192x1 .f32 := Memref.whole cc0_scratch2

/-- Where block `b`'s rows start. -/
abbrev rowOff (b : Fin 8) : Fin 2 → Nat := ![1024 * b.val, 0]
theorem rowOff_inb : ∀ b : Fin 8, ∀ a, rowOff b a + S1024x2048.size a ≤ S8192x2048.size a := by decide
/-- Where slot `s` starts. -/
abbrev slotOff (s : Fin 3) : Fin 3 → Nat := ![s.val, 0, 0]
theorem slotOff_inb : ∀ s : Fin 3, ∀ a, slotOff s a + S1x1024x2048.size a ≤ S3x1024x2048.size a := by decide
abbrev semOff (s : Fin 3) : Fin 1 → Nat := ![s.val]
theorem semOff_inb : ∀ s : Fin 3, ∀ a, semOff s a + S1.size a ≤ S3.size a := by decide

/-- Block `b` of a tall array. -/
def rows (A : Memref sig .tc .hbm S8192x2048 .f32) (b : Fin 8) : Memref sig .tc .hbm S1024x2048 .f32 :=
  A.slice (Rect.unit (s := S8192x2048) (rowOff b) S1024x2048.size (rowOff_inb b)) (fun _ => rfl)
/-- Slot `s` of a three-slot buffer. -/
def slot (B : Memref sig .tc .vmem S3x1024x2048 .f32) (s : Fin 3) : Memref sig .tc .vmem S1024x2048 .f32 :=
  (B.slice (Rect.unit (s := S3x1024x2048) (slotOff s) S1x1024x2048.size (slotOff_inb s)) (fun _ => rfl)).squeeze S1024x2048 squeezes_S1x1024x2048_S1024x2048
/-- Cell `s` of a row of three. -/
def cell (A : DmaSems sig S3) (s : Fin 3) : DmaSems sig S_ :=
  (A.slice (Rect.unit (s := S3) (semOff s) S1.size (semOff_inb s))).squeeze S_ squeezes_S1_S_

instance (s : Fin 3) : ClosedOff (slotOff s) := ⟨slotOff s, rfl⟩
instance (b : Fin 8) : ClosedOff (rowOff b) := ⟨rowOff b, rfl⟩

theorem trips_eq : k0_t1_loop.trips = 8 := by decide
theorem trip_lt (k : Fin k0_t1_loop.trips) : k.val < 8 := Nat.lt_of_lt_of_eq k.isLt trips_eq

theorem cond1_iff : ∀ k : Fin k0_t1_loop.trips, k0_cond1 k = 1#1 ↔ 3 ≤ k.val := by decide +kernel
theorem cond2_iff : ∀ k : Fin k0_t1_loop.trips, k0_cond2 k = 1#1 ↔ k.val + 3 < 8 := by decide +kernel

theorem off1_at : ∀ k : Fin k0_t1_loop.trips, k0_off1 k = semOff (Ring.sl 3 k.val) := by decide +kernel
theorem off2_at : ∀ k : Fin k0_t1_loop.trips, k0_off2 k = slotOff (Ring.sl 3 k.val) := by decide +kernel
theorem off3_at : ∀ k : Fin k0_t1_loop.trips, k0_off3 k = rowOff (Ring.bk 8 k.val) := by decide +kernel
theorem off4_at : ∀ k : Fin k0_t1_loop.trips, k0_off4 k = semOff (Ring.sl 3 k.val) := by decide +kernel
theorem off5_at : ∀ k : Fin k0_t1_loop.trips, 3 ≤ k.val → k0_off5 k = rowOff (Ring.bk 8 (k.val - 3)) := by decide +kernel
theorem off6_at : ∀ k : Fin k0_t1_loop.trips, k0_off6 k = slotOff (Ring.sl 3 k.val) := by decide +kernel
theorem off7_at : ∀ k : Fin k0_t1_loop.trips, k0_off7 k = rowOff (Ring.bk 8 k.val) := by decide +kernel
theorem off8_at : ∀ k : Fin k0_t1_loop.trips, k0_off8 k = slotOff (Ring.sl 3 k.val) := by decide +kernel
theorem off9_at : ∀ k : Fin k0_t1_loop.trips, k0_off9 k = semOff (Ring.sl 3 k.val) := by decide +kernel
theorem off10_at : ∀ k : Fin k0_t1_loop.trips, k0_off10 k = slotOff (Ring.sl 3 k.val) := by decide +kernel
theorem off11_at : ∀ k : Fin k0_t1_loop.trips, k.val + 3 < 8 → k0_off11 k = rowOff (Ring.bk 8 (k.val + 3)) := by decide +kernel

section Canon
variable (A : Memref sig .tc .hbm S8192x2048 .f32) (B : Memref sig .tc .vmem S3x1024x2048 .f32) (C : DmaSems sig S3)

theorem cell_of {off : Fin 1 → Nat} {s : Fin 3} (e : off = semOff s) (hh) :
    (C.slice (Rect.unit (s := S3) off S1.size hh)).squeeze S_ squeezes_S1_S_ = cell C s :=
  congrArg (fun A : DmaSems sig S1 => A.squeeze S_ squeezes_S1_S_) (SemArray.slice_unit_congr _ e _ _)
theorem slot_of {off : Fin 3 → Nat} {s : Fin 3} (e : off = slotOff s) (hh hs) :
    (B.slice (Rect.unit (s := S3x1024x2048) off S1x1024x2048.size hh) hs).squeeze S1024x2048 squeezes_S1x1024x2048_S1024x2048 = slot B s :=
  congrArg (fun M : Memref sig .tc .vmem S1x1024x2048 .f32 => M.squeeze S1024x2048 squeezes_S1x1024x2048_S1024x2048) (Memref.slice_unit_congr _ e _ _ _ _)
theorem rows_of {off : Fin 2 → Nat} {b : Fin 8} (e : off = rowOff b) (hh hs) :
    A.slice (Rect.unit (s := S8192x2048) off S1024x2048.size hh) hs = rows A b := Memref.slice_unit_congr _ e _ _ _ (fun _ => rfl)

/-! The slices before the loop, -/
@[sl_canon] theorem cell_0 (hh) : (C.slice (Rect.unit (s := S3) ![0] S1.size hh)).squeeze S_ squeezes_S1_S_ = cell C 0 := cell_of C (by decide) _
@[sl_canon] theorem cell_1 (hh) : (C.slice (Rect.unit (s := S3) ![1] S1.size hh)).squeeze S_ squeezes_S1_S_ = cell C 1 := cell_of C (by decide) _
@[sl_canon] theorem cell_2 (hh) : (C.slice (Rect.unit (s := S3) ![2] S1.size hh)).squeeze S_ squeezes_S1_S_ = cell C 2 := cell_of C (by decide) _
@[sl_canon] theorem slot_0 (hh hs) : (B.slice (Rect.unit (s := S3x1024x2048) ![0, 0, 0] S1x1024x2048.size hh) hs).squeeze S1024x2048 squeezes_S1x1024x2048_S1024x2048 = slot B 0 := slot_of B (by decide) _ _
@[sl_canon] theorem slot_1 (hh hs) : (B.slice (Rect.unit (s := S3x1024x2048) ![1, 0, 0] S1x1024x2048.size hh) hs).squeeze S1024x2048 squeezes_S1x1024x2048_S1024x2048 = slot B 1 := slot_of B (by decide) _ _
@[sl_canon] theorem slot_2 (hh hs) : (B.slice (Rect.unit (s := S3x1024x2048) ![2, 0, 0] S1x1024x2048.size hh) hs).squeeze S1024x2048 squeezes_S1x1024x2048_S1024x2048 = slot B 2 := slot_of B (by decide) _ _
@[sl_canon] theorem rows_0 (hh hs) : A.slice (Rect.unit (s := S8192x2048) ![0, 0] S1024x2048.size hh) hs = rows A 0 := rows_of A (by decide) _ _
@[sl_canon] theorem rows_1 (hh hs) : A.slice (Rect.unit (s := S8192x2048) ![1024, 0] S1024x2048.size hh) hs = rows A 1 := rows_of A (by decide) _ _
@[sl_canon] theorem rows_2 (hh hs) : A.slice (Rect.unit (s := S8192x2048) ![2048, 0] S1024x2048.size hh) hs = rows A 2 := rows_of A (by decide) _ _

/-! those of trip `k`, -/
@[sl_canon] theorem cell_k (k : Fin k0_t1_loop.trips) (hh) : (C.slice (Rect.unit (s := S3) (k0_off1 k) S1.size hh)).squeeze S_ squeezes_S1_S_ = cell C (Ring.sl 3 k.val) := cell_of C (off1_at k) _
@[sl_canon] theorem slot_k (k : Fin k0_t1_loop.trips) (hh hs) : (B.slice (Rect.unit (s := S3x1024x2048) (k0_off2 k) S1x1024x2048.size hh) hs).squeeze S1024x2048 squeezes_S1x1024x2048_S1024x2048 = slot B (Ring.sl 3 k.val) := slot_of B (off2_at k) _ _
@[sl_canon] theorem rows_k (k : Fin k0_t1_loop.trips) (hh hs) : A.slice (Rect.unit (s := S8192x2048) (k0_off3 k) S1024x2048.size hh) hs = rows A (Ring.bk 8 k.val) := rows_of A (off3_at k) _ _
@[sl_canon] theorem cell_w (k : Fin k0_t1_loop.trips) (hh) : (C.slice (Rect.unit (s := S3) (k0_off4 k) S1.size hh)).squeeze S_ squeezes_S1_S_ = cell C (Ring.sl 3 k.val) := cell_of C (off4_at k) _
@[sl_canon] theorem rows_w (k : Fin k0_t1_loop.trips) (hk : 3 ≤ k.val) (hh hs) : A.slice (Rect.unit (s := S8192x2048) (k0_off5 k) S1024x2048.size hh) hs = rows A (Ring.bk 8 (k.val - 3)) := rows_of A (off5_at k hk) _ _
@[sl_canon] theorem slot_w (k : Fin k0_t1_loop.trips) (hh hs) : (B.slice (Rect.unit (s := S3x1024x2048) (k0_off6 k) S1x1024x2048.size hh) hs).squeeze S1024x2048 squeezes_S1x1024x2048_S1024x2048 = slot B (Ring.sl 3 k.val) := slot_of B (off6_at k) _ _
@[sl_canon] theorem cell_i (k : Fin k0_t1_loop.trips) (hh) : (C.slice (Rect.unit (s := S3) (k0_off9 k) S1.size hh)).squeeze S_ squeezes_S1_S_ = cell C (Ring.sl 3 k.val) := cell_of C (off9_at k) _
@[sl_canon] theorem slot_i (k : Fin k0_t1_loop.trips) (hh hs) : (B.slice (Rect.unit (s := S3x1024x2048) (k0_off10 k) S1x1024x2048.size hh) hs).squeeze S1024x2048 squeezes_S1x1024x2048_S1024x2048 = slot B (Ring.sl 3 k.val) := slot_of B (off10_at k) _ _
@[sl_canon] theorem rows_i (k : Fin k0_t1_loop.trips) (hk : k.val + 3 < 8) (hh hs) : A.slice (Rect.unit (s := S8192x2048) (k0_off11 k) S1024x2048.size hh) hs = rows A (Ring.bk 8 (k.val + 3)) := rows_of A (off11_at k hk) _ _

/-! and those after it. -/
@[sl_canon] theorem cell_e5 (hh) : (C.slice (Rect.unit (s := S3) (k0_off12 5#32) S1.size hh)).squeeze S_ squeezes_S1_S_ = cell C 2 := cell_of C (by decide) _
@[sl_canon] theorem cell_e6 (hh) : (C.slice (Rect.unit (s := S3) (k0_off12 6#32) S1.size hh)).squeeze S_ squeezes_S1_S_ = cell C 0 := cell_of C (by decide) _
@[sl_canon] theorem cell_e7 (hh) : (C.slice (Rect.unit (s := S3) (k0_off12 7#32) S1.size hh)).squeeze S_ squeezes_S1_S_ = cell C 1 := cell_of C (by decide) _
@[sl_canon] theorem slot_e5 (hh hs) : (B.slice (Rect.unit (s := S3x1024x2048) (k0_off13 5#32) S1x1024x2048.size hh) hs).squeeze S1024x2048 squeezes_S1x1024x2048_S1024x2048 = slot B 2 := slot_of B (by decide) _ _
@[sl_canon] theorem slot_e6 (hh hs) : (B.slice (Rect.unit (s := S3x1024x2048) (k0_off13 6#32) S1x1024x2048.size hh) hs).squeeze S1024x2048 squeezes_S1x1024x2048_S1024x2048 = slot B 0 := slot_of B (by decide) _ _
@[sl_canon] theorem slot_e7 (hh hs) : (B.slice (Rect.unit (s := S3x1024x2048) (k0_off13 7#32) S1x1024x2048.size hh) hs).squeeze S1024x2048 squeezes_S1x1024x2048_S1024x2048 = slot B 1 := slot_of B (by decide) _ _
@[sl_canon] theorem rows_e5 (hh hs) : A.slice (Rect.unit (s := S8192x2048) ![5120, 0] S1024x2048.size hh) hs = rows A 5 := rows_of A (by decide) _ _
@[sl_canon] theorem rows_e6 (hh hs) : A.slice (Rect.unit (s := S8192x2048) ![6144, 0] S1024x2048.size hh) hs = rows A 6 := rows_of A (by decide) _ _
@[sl_canon] theorem rows_e7 (hh hs) : A.slice (Rect.unit (s := S8192x2048) ![7168, 0] S1024x2048.size hh) hs = rows A 7 := rows_of A (by decide) _ _

end Canon

instance (priority := high) (k : Fin k0_t1_loop.trips) : ClosedOff (k0_off8 k) := ⟨slotOff (Ring.sl 3 k.val), off8_at k⟩
instance (priority := high) (k : Fin k0_t1_loop.trips) : ClosedOff (k0_off2 k) := ⟨slotOff (Ring.sl 3 k.val), off2_at k⟩

/-! ## The pieces -/

section Pieces
variable (c : Dev nD) (XA : Buf (Elt F) (hM.view.loc (c : Thread nD τ))) (Y : Buf (Elt F) (oM.view.loc (c : Thread nD τ)))

/-- Cell `s` at rest. -/
abbrev cellP (A : DmaSems sig S3) (s : Fin 3) : sProp 𝕄 := semVal ((c : Thread nD τ), SemLoc.dma (cell A s).sem) 0
/-- Slot `s` of a buffer held at `f`. -/
abbrev slotP (B : Memref sig .tc .vmem S3x1024x2048 .f32) (s : Fin 3) (f : Buf (Elt F) ((slot B s).view.loc (c : Thread nD τ))) : sProp 𝕄 :=
  (slot B s).view.loc (c : Thread nD τ) ↦[(slot B s).view.set]{fullShare} f
/-- Block `b` of a tall array held at `f`. -/
abbrev rowsP (A : Memref sig .tc .hbm S8192x2048 .f32) (b : Fin 8) (f : Buf (Elt F) ((rows A b).view.loc (c : Thread nD τ))) : sProp 𝕄 :=
  (rows A b).view.loc (c : Thread nD τ) ↦[(rows A b).view.set]{fullShare} f
/-- Slot `s` with its cell, nothing on its way. -/
abbrev idleP (A : DmaSems sig S3) (B : Memref sig .tc .vmem S3x1024x2048 .f32) (s : Fin 3) : sProp 𝕄 :=
  iprop(cellP c A s ∗ ∃ f, slotP c B s f)
/-- Block `b` of the hidden states, as a copy carries it. -/
abbrev carried (b : Fin 8) : S1024x2048.Idx → Elt F .f32 := ReadAs.same.apply ((rows hM b).view.read (Elt F) XA)
/-- Block `b` on its way into reading slot `s`, which held `f`. -/
abbrev comingP (s : Fin 3) (b : Fin 8) : sProp 𝕄 :=
  iprop(∃ f, Transfers.Flight countersEmb (c : Thread nD τ) (SemLoc.dma (cell cc0_scratch3 s).sem) () 262144
    iprop(slotP c inM s ((slot inM s).view.writes (Elt F) f [⟨Rect.whole S1024x2048, carried c XA b⟩]) ∗ rowsP c hM b XA))
/-- Block `b` of the result on its way out of writing slot `s`. -/
abbrev goingP (s : Fin 3) (b : Fin 8) : sProp 𝕄 :=
  iprop(∃ f, Transfers.Flight countersEmb (c : Thread nD τ) (SemLoc.dma (cell cc0_scratch4 s).sem) () 262144
    iprop(rowsP c oM b Y ∗ slotP c outM s f))

/-- The reading slot that carries block `p`: on its way while there is such a block, else idle. -/
abbrev readRole (p : ℕ) : sProp 𝕄 := Ring.roleAt (idleP c cc0_scratch3 inM (Ring.sl 3 p)) (comingP c XA (Ring.sl 3 p)) p
/-- The writing slot `s` last filled `back` trips before trip `k`. -/
abbrev writeRole (back : ℕ) (s : Fin 3) (k : ℕ) : sProp 𝕄 := Ring.roleBAt back (idleP c cc0_scratch4 outM s) (goingP c Y s) k

/-- Going one trip on, a writing slot was filled one trip further back. -/
theorem writeRole_succ (back : ℕ) (s : Fin 3) (k : ℕ) : writeRole c Y (back + 1) s (k + 1) = writeRole c Y back s k := by
  unfold writeRole Ring.roleBAt
  by_cases h : back ≤ k
  · rw [if_pos h, if_pos (by omega), show k + 1 - (back + 1) = k - back by omega]
  · rw [if_neg h, if_neg (by omega)]

end Pieces

/-! ## One trip -/

section Trip

variable (c : Dev nD) (XA : Buf (Elt F) (hM.view.loc (c : Thread nD τ)))
  (arg1 : Memref sig .tc .vmem S8192x2 .f32) (harg1 : arg1.IsWhole)
  (SC : Buf (Elt F) (scM.view.loc (c : Thread nD τ)))

abbrev scP : sProp 𝕄 := scM.view.loc (c : Thread nD τ) ↦[scM.view.set]{fullShare} SC

/-- The result: each hidden state times its row's scale. -/
def scaled : Buf (Elt F) (oM.view.loc (c : Thread nD τ)) := fun i : S8192x2048.Idx =>
  FloatOps.mulf (φ := .f32) (XA i) (SC (ix2 (n0 := 8192) (n1 := 1) (i 0) 0))

/-- The resources before trip `k`. -/
def resAt (k : ℕ) : sProp 𝕄 :=
  iprop(scP c SC ∗ (∃ W, owes (c : Thread nD τ) 0 W)
    ∗ bigSep (Ring.homeSet 3 k) (fun b => rowsP c hM b XA)
    ∗ bigSep (Ring.rangeSet 8 0 (k - 3)) (fun b => rowsP c oM b (scaled c XA SC))
    ∗ bigSep (Ring.rangeSet 8 k 8) (fun b => iprop(∃ f, rowsP c oM b f))
    ∗ readRole c XA k ∗ readRole c XA (k + 1) ∗ readRole c XA (k + 2)
    ∗ writeRole c (scaled c XA SC) 3 (Ring.sl 3 k) k ∗ writeRole c (scaled c XA SC) 2 (Ring.sl 3 (k + 1)) k
    ∗ writeRole c (scaled c XA SC) 1 (Ring.sl 3 (k + 2)) k)

abbrev tripG (k : Fin k0_t1_loop.trips) : Prog (TpuEff nD τ sig (Elt F) Λ₀ .tc) Unit :=
  k0_t1_body (F := F) hM (Memref.isWhole_whole _) arg1 harg1 oM (Memref.isWhole_whole _) inM (Memref.isWhole_whole _) outM (Memref.isWhole_whole _)
    scM (Memref.isWhole_whole _) cc0_scratch3 cc0_scratch4 k ()

section Sets
variable (Φ : Fin 8 → sProp (MT nD τ sig Unit (Elt F) ℕ (UU nD τ) ℕ))

/-- Trip `k`'s input blocks at home: block `k + 3`, about to go out, beside the rest. -/
theorem homes_here (k : ℕ) (hk : k + 3 < 8) :
    bigSep (Ring.homeSet 3 k) Φ = iprop(Φ (Ring.bk 8 (k + 3)) ∗ bigSep ((Ring.homeSet 3 k).erase (Ring.bk 8 (k + 3))) Φ) := by
  conv_lhs => rw [Ring.homeSet_out 3 k hk, bigSep_insert (Ring.bkL_not_mem_erase 3 k)]
  rfl
/-- The next trip's: block `k`, just back, beside that rest. -/
theorem homes_next (k : ℕ) (hk : k + 3 < 8) :
    bigSep (Ring.homeSet 3 (k + 1)) Φ = iprop(Φ (Ring.bk 8 k) ∗ bigSep ((Ring.homeSet 3 k).erase (Ring.bk 8 (k + 3))) Φ) := by
  conv_lhs => rw [Ring.homeSet_succ 3 k hk, bigSep_insert (Ring.bk_not_mem_erase 3 k (by omega) (by decide))]
  rfl
/-- The next trip's when nothing goes out any more: block `k` beside all of trip `k`'s. -/
theorem homes_next_tail (k : ℕ) (hk : 8 ≤ k + 3) (h8 : k < 8) :
    bigSep (Ring.homeSet 3 (k + 1)) Φ = iprop(Φ (Ring.bk 8 k) ∗ bigSep (Ring.homeSet 3 k) Φ) := by
  conv_lhs => rw [Ring.homeSet_succ_tail 3 k hk h8, bigSep_insert (Ring.bk_not_mem_homeSet 3 k h8 (by decide))]
  rfl
/-- The output blocks still to write: block `k` beside the later ones. -/
theorem ahead_here (k : ℕ) (hk : k < 8) :
    bigSep (Ring.rangeSet 8 k 8) Φ = iprop(Φ (Ring.bk 8 k) ∗ bigSep (Ring.rangeSet 8 (k + 1) 8) Φ) := by
  rw [Ring.bk_eq_mk hk]; exact Ring.bigSep_rangeSet_head hk hk
/-- The output blocks written: block `k - 3` joins them at trip `k`. -/
theorem done_next (k : ℕ) (hk : 3 ≤ k) (h8 : k < 8) :
    bigSep (Ring.rangeSet 8 0 (k + 1 - 3)) Φ = iprop(Φ (Ring.bk 8 (k - 3)) ∗ bigSep (Ring.rangeSet 8 0 (k - 3)) Φ) := by
  rw [Ring.bk_eq_mk (show k - 3 < 8 by omega), show k + 1 - 3 = (k - 3) + 1 by omega]
  exact Ring.bigSep_rangeSet_last (by omega) (by omega)
theorem done_next_none (k : ℕ) (hk : k < 3) :
    bigSep (Ring.rangeSet 8 0 (k + 1 - 3)) Φ = bigSep (Ring.rangeSet 8 0 (k - 3)) Φ := by
  rw [show k + 1 - 3 = k - 3 by omega]
end Sets

end Trip

/-! ## The values -/

/-- A slot reads the enclosing buffer's slab at its number, the unit axis dropped. -/
theorem read_slot (B : Memref sig .tc .vmem S3x1024x2048 .f32) (s : Fin 3) (f : B.view.ty.Contents (Elt F)) :
    (slot B s).view.read (Elt F) f
      = shapeCast S1024x2048 (B.view.readAt (Elt F) (Rect.unit (s := S3x1024x2048) (slotOff s) S1x1024x2048.size (slotOff_inb s)).toLoadRect f)
          shapeCasts_S1x1024x2048_S1024x2048 :=
  Memref.read_squeeze_slice B _ _ squeezes_S1x1024x2048_S1024x2048 _ f

/-- After a store of the whole slab, the slot reads what was stored. -/
theorem read_slot_write (B : Memref sig .tc .vmem S3x1024x2048 .f32) (s : Fin 3) (f : B.view.ty.Contents (Elt F)) (w : S1x1024x2048.Idx → Elt F .f32) :
    (slot B s).view.read (Elt F) ((B.access (Rect.unit (s := S3x1024x2048) (slotOff s) S1x1024x2048.size (slotOff_inb s))).write (Elt F) f w Finset.univ)
      = shapeCast S1024x2048 w shapeCasts_S1x1024x2048_S1024x2048 := by
  rw [read_slot]
  exact congrArg (fun w => shapeCast S1024x2048 w shapeCasts_S1x1024x2048_S1024x2048)
    (View.read_write_univ (v := B.access (Rect.unit (s := S3x1024x2048) (slotOff s) S1x1024x2048.size (slotOff_inb s))) f w)

/-- A block's row in the whole array. -/
def rowOf (b : Fin 8) (r : Fin 1024) : Fin 8192 := ⟨1024 * b.val + r.val, by omega⟩

/-- Block `b` of the hidden states reads its rows. -/
theorem read_rows_in (b : Fin 8) (f : S8192x2048.Idx → Elt F .f32) (y : S1024x2048.Idx) :
    (rows hM b).view.read (Elt F) f y = f (ix2 (n0 := 8192) (n1 := 2048) (rowOf b (y 0)) (y 1)) := by
  refine congrArg f (funext fun a => Fin.ext ?_)
  match a with
  | ⟨0, _⟩ => exact congrArg (1024 * b.val + ·) (Nat.one_mul _)
  | ⟨1, _⟩ => exact (Nat.zero_add _).trans (Nat.one_mul _)
theorem read_rows_out (b : Fin 8) (f : S8192x2048.Idx → Elt F .f32) (y : S1024x2048.Idx) :
    (rows oM b).view.read (Elt F) f y = f (ix2 (n0 := 8192) (n1 := 2048) (rowOf b (y 0)) (y 1)) := by
  refine congrArg f (funext fun a => Fin.ext ?_)
  match a with
  | ⟨0, _⟩ => exact congrArg (1024 * b.val + ·) (Nat.one_mul _)
  | ⟨1, _⟩ => exact (Nat.zero_add _).trans (Nat.one_mul _)
/-- The scales' rows of block `b`. -/
theorem read_scales (b : Fin 8) (h7 : ∀ a, rowOff b a + S1024x1.size a ≤ S8192x1.size a) (f : S8192x1.Idx → Elt F .f32) (r : Fin 1024) :
    scM.view.readAt (Elt F) (Rect.unit (s := S8192x1) (rowOff b) S1024x1.size h7).toLoadRect f (ix2 (n0 := 1024) (n1 := 1) r 0)
      = f (ix2 (n0 := 8192) (n1 := 1) (rowOf b r) 0) := by
  refine congrArg f (funext fun a => Fin.ext ?_)
  match a with
  | ⟨0, _⟩ => exact congrArg (1024 * b.val + ·) (Nat.one_mul _)
  | ⟨1, _⟩ => rfl

/-- The row scales spread over a block's columns. -/
theorem spread_apply (v : Vec F S1024x1 .f32) (y : S1024x2048.Idx) :
    broadcastTo S1024x2048 v broadcasts_S1024x1_S1024x2048 y = v (ix2 (n0 := 1024) (n1 := 1) (y 0) 0) :=
  broadcastTo_apply _ _ y _ (by intro a; match a with | ⟨0, _⟩ => rfl | ⟨1, _⟩ => rfl)

section Values
variable (c : Dev nD) (XA : Buf (Elt F) (hM.view.loc (c : Thread nD τ))) (SC : Buf (Elt F) (scM.view.loc (c : Thread nD τ)))

/-- What a trip stores into its writing slot, block `b` having landed in the reading slot `s`: read back through the slot,
    each hidden state of the block times its row's scale. -/
theorem stored_read (s : Fin 3) (b : Fin 8) {off8 : Fin 3 → Nat} {off7 : Fin 2 → Nat} (e8 : off8 = slotOff s) (e7 : off7 = rowOff b)
    (h8 : ∀ a, off8 a + S1x1024x2048.size a ≤ S3x1024x2048.size a) (h7 : ∀ a, off7 a + S1024x1.size a ≤ S8192x1.size a)
    (j : Buf (Elt F) ((slot inM s).view.loc (c : Thread nD τ))) (g : Buf (Elt F) ((slot outM s).view.loc (c : Thread nD τ))) :
    (slot outM s).view.read (Elt F)
      ((outM.access (Rect.unit (s := S3x1024x2048) off8 S1x1024x2048.size h8)).write (Elt F) g
        (k0_pay2 (scM.view.readAt (Elt F) (Rect.unit (s := S8192x1) off7 S1024x1.size h7).toLoadRect SC)
          (inM.view.readAt (Elt F) (Rect.unit (s := S3x1024x2048) off8 S1x1024x2048.size h8).toLoadRect
            ((slot inM s).view.writes (Elt F) j [⟨Rect.whole S1024x2048, carried c XA b⟩]))) Finset.univ)
      = (rows oM b).view.read (Elt F) (scaled c XA SC) := by
  subst e8 e7
  refine (read_slot_write outM s g _).trans ?_
  have hin := (read_slot inM s _).symm.trans (View.read_writes_whole (slot inM s).view j (carried c XA b))
  unfold k0_pay2
  refine (shapeCast_shapeCast _ _ _).trans ?_
  funext y
  rw [read_rows_out]
  have h1 : carried c XA b y = XA (ix2 (n0 := 8192) (n1 := 2048) (rowOf b (y 0)) (y 1)) := read_rows_in b XA y
  have h2 := (congrFun hin y).trans h1
  have h3 := (spread_apply _ y).trans (read_scales b h7 SC (y 0))
  exact congrArg₂ (FloatOps.mulf (φ := .f32)) h2 h3

end Values

/-! ## Restating what a copy delivers -/

section Restate
variable (c : Dev nD) (XA : Buf (Elt F) (hM.view.loc (c : Thread nD τ))) (Y : Buf (Elt F) (oM.view.loc (c : Thread nD τ)))

/-- A block of the output after a copy of `Y`'s rows holds `Y` there. -/
theorem rows_written (b : Fin 8) (f : Buf (Elt F) ((rows oM b).view.loc (c : Thread nD τ))) {P : S1024x2048.Idx → Elt F .f32}
    (hP : P = (rows oM b).view.read (Elt F) Y) :
    rowsP c oM b ((rows oM b).view.writes (Elt F) f [⟨Rect.whole S1024x2048, P⟩]) = rowsP c oM b Y := by
  refine pointsTo_congr fun i hi => ?_
  have he : ∃ x, (rows oM b).view.emb x = i := by
    obtain ⟨x, -, e⟩ := Finset.mem_map.mp (show i ∈ Finset.univ.map (rows oM b).view.emb from hi)
    exact ⟨x, e⟩
  obtain ⟨x, e⟩ := he
  have hr := View.eq_of_read_eq (v := (rows oM b).view) (congrFun ((View.read_writes_whole (rows oM b).view f P).trans hP) x)
  rw [e] at hr
  exact hr

/-- A block on its way in, over a slot that held two payloads in turn. -/
theorem coming_of (s : Fin 3) (b : Fin 8) (f : Buf (Elt F) ((slot inM s).view.loc (c : Thread nD τ))) (L : List (View.Piece (Elt F) S1024x2048 .f32)) :
    Transfers.Flight countersEmb (c : Thread nD τ) (SemLoc.dma (cell cc0_scratch3 s).sem) () 262144
      iprop(slotP c inM s ((slot inM s).view.writes (Elt F) f (⟨Rect.whole S1024x2048, carried c XA b⟩ :: L)) ∗ rowsP c hM b XA)
    ⊢ comingP c XA s b := by
  iintro H
  iexists ((slot inM s).view.writes (Elt F) f L)
  iexact H

/-- A block on its way out, its words known to be `Y`'s rows. -/
theorem going_of (s : Fin 3) (b : Fin 8) (f : Buf (Elt F) ((rows oM b).view.loc (c : Thread nD τ))) (g : Buf (Elt F) ((slot outM s).view.loc (c : Thread nD τ)))
    {P : S1024x2048.Idx → Elt F .f32} (hP : P = (rows oM b).view.read (Elt F) Y) :
    Transfers.Flight countersEmb (c : Thread nD τ) (SemLoc.dma (cell cc0_scratch4 s).sem) () 262144
      iprop(rowsP c oM b ((rows oM b).view.writes (Elt F) f [⟨Rect.whole S1024x2048, P⟩]) ∗ slotP c outM s g)
    ⊢ goingP c Y s b := by
  rw [rows_written c Y b f hP]
  iintro H
  iexists g
  iexact H

end Restate

/-! ## The trips -/

section Trips

variable (c : Dev nD) (XA : Buf (Elt F) (hM.view.loc (c : Thread nD τ)))
  (arg1 : Memref sig .tc .vmem S8192x2 .f32) (harg1 : arg1.IsWhole)
  (SC : Buf (Elt F) (scM.view.loc (c : Thread nD τ)))

/-- An early trip: it sends for an input block, its writing slot never used before. -/
theorem trip_early (k : Fin k0_t1_loop.trips) (h1 : k.val < 3) :
    resAt c XA SC k.val ⊢ wp frame (wpE (defs₀ (F := F)) 𝒱₀ (c : Thread nD τ) none) Set.univ (tripG arg1 harg1 k)
      (fun _ => resAt c XA SC (k.val + 1)) := by
  have h2 : k.val + 3 < 8 := by omega
  have c1 : ¬ k0_cond1 k = 1#1 := fun h => absurd ((cond1_iff k).1 h) (by omega)
  have c2 : k0_cond2 k = 1#1 := (cond2_iff k).2 h2
  have h8 : k.val < 8 := by omega
  unfold resAt
  rw [homes_here _ k.val h2, homes_next _ k.val h2, ahead_here _ k.val h8, done_next_none _ k.val h1,
    writeRole_succ, writeRole_succ, show k.val + 1 + 1 = k.val + 2 from rfl,
    Ring.sl_succ_add 3 k.val 2 rfl]
  unfold readRole writeRole
  rw [Ring.roleAt_of_lt _ _ k.val h8, Ring.roleBAt_of_lt _ _ _ k.val h1, show k.val + 1 + 2 = k.val + 3 from rfl,
    Ring.roleAt_of_lt _ _ (k.val + 3) h2, Ring.roleBAt_of_le 1 _ _ (k.val+1) (by omega), Nat.add_sub_cancel, Ring.sl_add 3 k.val]
  iintro ⟨HS, ⟨%W, HW⟩, ⟨Hh, Hhr⟩, Hd, ⟨⟨%fo, Ho⟩, Hor⟩, ⟨%f0, HI⟩, HI1, HI2, ⟨HO, ⟨%g0, HOs⟩⟩, HO1, HO2⟩
  dsimp only [tripG]
  sl_unfold [k0_t1_body]
  sl_exec
  sl_step
  isplitl [HS]; · iexact HS
  isplitl [HW]; · iexists _; iexact HW
  isplitl [HI_src Hhr]
  · isplitl [HI_src]; · iexact HI_src
    iexact Hhr
  isplitl [Hd]; · iexact Hd
  isplitl [Hor]; · iexact Hor
  isplitl [HI1]; · iexact HI1
  isplitl [HI2]; · iexact HI2
  isplitl [HI]; · iapply (coming_of c XA _ _ _ _); iexact HI
  isplitl [HO1]; · iexact HO1
  isplitl [HO2]; · iexact HO2
  iapply (going_of c _ _ _ fo _ (stored_read c XA SC _ _ (off8_at k) (off7_at k) _ _ _ _))
  iexact HO

/-- A trip in the middle: it waits for an output block and sends for an input block. -/
theorem trip_mid (k : Fin k0_t1_loop.trips) (h1 : 3 ≤ k.val) (h2 : k.val + 3 < 8) :
    resAt c XA SC k.val ⊢ wp frame (wpE (defs₀ (F := F)) 𝒱₀ (c : Thread nD τ) none) Set.univ (tripG arg1 harg1 k)
      (fun _ => resAt c XA SC (k.val + 1)) := by
  have c1 : k0_cond1 k = 1#1 := (cond1_iff k).2 h1
  have c2 : k0_cond2 k = 1#1 := (cond2_iff k).2 h2
  have h8 : k.val < 8 := by omega
  unfold resAt
  rw [homes_here _ k.val h2, homes_next _ k.val h2, ahead_here _ k.val h8, done_next _ k.val h1 h8,
    writeRole_succ, writeRole_succ, show k.val + 1 + 1 = k.val + 2 from rfl,
    Ring.sl_succ_add 3 k.val 2 rfl]
  unfold readRole writeRole
  rw [Ring.roleAt_of_lt _ _ k.val h8, Ring.roleBAt_of_le _ _ _ k.val h1, show k.val + 1 + 2 = k.val + 3 from rfl,
    Ring.roleAt_of_lt _ _ (k.val + 3) h2, Ring.roleBAt_of_le 1 _ _ (k.val+1) (by omega), Nat.add_sub_cancel, Ring.sl_add 3 k.val]
  iintro ⟨HS, ⟨%W, HW⟩, ⟨Hh, Hhr⟩, Hd, ⟨⟨%fo, Ho⟩, Hor⟩, ⟨%f0, HI⟩, HI1, HI2, ⟨%g0, HO⟩, HO1, HO2⟩
  dsimp only [tripG]
  sl_unfold [k0_t1_body]
  sl_exec
  sl_step
  isplitl [HS]; · iexact HS
  isplitl [HW]; · iexists _; iexact HW
  isplitl [HI_src Hhr]
  · isplitl [HI_src]; · iexact HI_src
    iexact Hhr
  isplitl [HO_dst Hd]
  · isplitl [HO_dst]; · iexact HO_dst
    iexact Hd
  isplitl [Hor]; · iexact Hor
  isplitl [HI1]; · iexact HI1
  isplitl [HI2]; · iexact HI2
  isplitl [HI]; · iapply (coming_of c XA _ _ _ _); iexact HI
  isplitl [HO1]; · iexact HO1
  isplitl [HO2]; · iexact HO2
  iapply (going_of c _ _ _ fo _ (stored_read c XA SC _ _ (off8_at k) (off7_at k) _ _ _ _))
  iexact HO

/-- A late trip: it waits for an output block, and no input block is left to send for. -/
theorem trip_late (k : Fin k0_t1_loop.trips) (h2 : 8 ≤ k.val + 3) :
    resAt c XA SC k.val ⊢ wp frame (wpE (defs₀ (F := F)) 𝒱₀ (c : Thread nD τ) none) Set.univ (tripG arg1 harg1 k)
      (fun _ => resAt c XA SC (k.val + 1)) := by
  have h1 : 3 ≤ k.val := by omega
  have h8 : k.val < 8 := trip_lt k
  have c1 : k0_cond1 k = 1#1 := (cond1_iff k).2 h1
  have c2 : ¬ k0_cond2 k = 1#1 := fun h => absurd ((cond2_iff k).1 h) (by omega)
  unfold resAt
  rw [homes_next_tail _ k.val h2 h8, ahead_here _ k.val h8, done_next _ k.val h1 h8,
    writeRole_succ, writeRole_succ, show k.val + 1 + 1 = k.val + 2 from rfl,
    Ring.sl_succ_add 3 k.val 2 rfl]
  unfold readRole writeRole
  rw [Ring.roleAt_of_lt _ _ k.val h8, Ring.roleBAt_of_le _ _ _ k.val h1, show k.val + 1 + 2 = k.val + 3 from rfl,
    Ring.roleAt_of_le _ _ (k.val + 3) h2, Ring.roleBAt_of_le 1 _ _ (k.val+1) (by omega), Nat.add_sub_cancel, Ring.sl_add 3 k.val]
  iintro ⟨HS, ⟨%W, HW⟩, Hhr, Hd, ⟨⟨%fo, Ho⟩, Hor⟩, ⟨%f0, HI⟩, HI1, HI2, ⟨%g0, HO⟩, HO1, HO2⟩
  dsimp only [tripG]
  sl_unfold [k0_t1_body]
  sl_exec
  sl_step
  isplitl [HS]; · iexact HS
  isplitl [HW]; · iexists _; iexact HW
  isplitl [HI_src Hhr]
  · isplitl [HI_src]; · iexact HI_src
    iexact Hhr
  isplitl [HO_dst Hd]
  · isplitl [HO_dst]; · iexact HO_dst
    iexact Hd
  isplitl [Hor]; · iexact Hor
  isplitl [HI1]; · iexact HI1
  isplitl [HI2]; · iexact HI2
  isplitl [HI HI_dst]
  · isplitl [HI]; · iexact HI
    iexists _; iexact HI_dst
  isplitl [HO1]; · iexact HO1
  isplitl [HO2]; · iexact HO2
  iapply (going_of c _ _ _ fo _ (stored_read c XA SC _ _ (off8_at k) (off7_at k) _ _ _ _))
  iexact HO

end Trips

/-! ## The loop and the body -/

section Body

variable (c : Dev nD) (XA : Buf (Elt F) (hM.view.loc (c : Thread nD τ)))
  (arg1 : Memref sig .tc .vmem S8192x2 .f32) (harg1 : arg1.IsWhole)

/-- The loop's invariant: the resources before each trip. -/
abbrev loopInv (SC : Buf (Elt F) (scM.view.loc (c : Thread nD τ))) :
    LoopInvTy_k0_t1 (F := F) Unit ℕ (UU nD τ) ℕ 𝒱₀ c none Set.univ hM (Memref.isWhole_whole _) arg1 harg1 oM (Memref.isWhole_whole _)
      inM (Memref.isWhole_whole _) outM (Memref.isWhole_whole _) scM (Memref.isWhole_whole _) cc0_scratch3 cc0_scratch4 where
  inv k _ := resAt c XA SC k
  step k _ := by
    by_cases h1 : k.val < 3
    · exact trip_early c XA arg1 harg1 SC k h1
    · by_cases h2 : k.val + 3 < 8
      · exact trip_mid c XA arg1 harg1 SC k (by omega) h2
      · exact trip_late c XA arg1 harg1 SC k (by omega)

/-- The resources before the first trip, from what the prologue leaves. -/
theorem resAt_zero (SC : Buf (Elt F) (scM.view.loc (c : Thread nD τ))) :
    iprop(scP c SC ∗ (∃ W, owes (c : Thread nD τ) 0 W) ∗ bigSep (Ring.homeSet 3 0) (fun b => rowsP c hM b XA)
      ∗ bigSep Finset.univ (fun b => iprop(∃ f, rowsP c oM b f))
      ∗ comingP c XA 0 0 ∗ comingP c XA 1 1 ∗ comingP c XA 2 2
      ∗ idleP c cc0_scratch4 outM 0 ∗ idleP c cc0_scratch4 outM 1 ∗ idleP c cc0_scratch4 outM 2)
    ⊢ resAt c XA SC 0 := by
  unfold resAt
  rw [Ring.bigSep_rangeSet_empty (show 0 - 3 ≤ 0 by decide), Ring.rangeSet_univ]
  unfold readRole writeRole
  rw [Ring.roleAt_of_lt _ _ 0 (by decide), Ring.roleAt_of_lt _ _ (0 + 1) (by decide), Ring.roleAt_of_lt _ _ (0 + 2) (by decide),
    Ring.roleBAt_of_lt 3 _ _ 0 (by decide), Ring.roleBAt_of_lt 2 _ _ 0 (by decide), Ring.roleBAt_of_lt 1 _ _ 0 (by decide),
    show Ring.sl 3 0 = 0 by decide, show Ring.sl 3 (0 + 1) = 1 by decide, show Ring.sl 3 (0 + 2) = 2 by decide,
    show Ring.bk 8 0 = 0 by decide, show Ring.bk 8 (0 + 1) = 1 by decide, show Ring.bk 8 (0 + 2) = 2 by decide]
  iintro ⟨HS, HW, Hh, Ho, H0, H1, H2, G0, G1, G2⟩
  isplitl [HS]; · iexact HS
  isplitl [HW]; · iexact HW
  isplitl [Hh]; · iexact Hh
  isplitr [Ho H0 H1 H2 G0 G1 G2]; · iempintro
  isplitl [Ho]; · iexact Ho
  isplitl [H0]; · iexact H0
  isplitl [H1]; · iexact H1
  isplitl [H2]; · iexact H2
  isplitl [G0]; · iexact G0
  isplitl [G1]; · iexact G1
  iexact G2

/-- What the resources after the last trip are. -/
theorem resAt_last (SC : Buf (Elt F) (scM.view.loc (c : Thread nD τ))) :
    resAt c XA SC k0_t1_loop.trips ⊢
    iprop(scP c SC ∗ (∃ W, owes (c : Thread nD τ) 0 W) ∗ bigSep Finset.univ (fun b => rowsP c hM b XA)
      ∗ bigSep (Ring.rangeSet 8 0 5) (fun b => rowsP c oM b (scaled c XA SC))
      ∗ idleP c cc0_scratch3 inM 2 ∗ idleP c cc0_scratch3 inM 0 ∗ idleP c cc0_scratch3 inM 1
      ∗ goingP c (scaled c XA SC) 2 5 ∗ goingP c (scaled c XA SC) 0 6 ∗ goingP c (scaled c XA SC) 1 7) := by
  rw [trips_eq]
  unfold resAt
  rw [Ring.homeSet_last 3 8 (by decide), Ring.bigSep_rangeSet_empty (show 8 ≤ 8 by decide)]
  unfold readRole writeRole
  rw [Ring.roleAt_of_le _ _ 8 (by decide), Ring.roleAt_of_le _ _ (8 + 1) (by decide), Ring.roleAt_of_le _ _ (8 + 2) (by decide),
    Ring.roleBAt_of_le 3 _ _ 8 (by decide), Ring.roleBAt_of_le 2 _ _ 8 (by decide), Ring.roleBAt_of_le 1 _ _ 8 (by decide),
    show Ring.sl 3 8 = 2 by decide, show Ring.sl 3 (8 + 1) = 0 by decide, show Ring.sl 3 (8 + 2) = 1 by decide,
    show Ring.bk 8 (8 - 3) = 5 by decide, show Ring.bk 8 (8 - 2) = 6 by decide, show Ring.bk 8 (8 - 1) = 7 by decide]
  iintro ⟨HS, HW, Hh, Hd, -, H0, H1, H2, G0, G1, G2⟩
  isplitl [HS]; · iexact HS
  isplitl [HW]; · iexact HW
  isplitl [Hh]; · iexact Hh
  isplitl [Hd]; · iexact Hd
  isplitl [H0]; · iexact H0
  isplitl [H1]; · iexact H1
  isplitl [H2]; · iexact H2
  isplitl [G0]; · iexact G0
  isplitl [G1]; · iexact G1
  iexact G2

/-- The last three output blocks beside the first five. -/
theorem outs_all (Φ : Fin 8 → sProp (MT nD τ sig Unit (Elt F) ℕ (UU nD τ) ℕ)) :
    iprop(Φ 5 ∗ Φ 6 ∗ Φ 7 ∗ bigSep (Ring.rangeSet 8 0 5) Φ) ⊢ bigSep Finset.univ Φ := by
  rw [← Ring.rangeSet_univ, Ring.bigSep_rangeSet_last (lo := 0) (hi := 8) (by decide) (by decide),
    Ring.bigSep_rangeSet_last (lo := 0) (hi := 8 - 1) (by decide) (by decide), Ring.bigSep_rangeSet_last (lo := 0) (hi := 8 - 1 - 1) (by decide) (by decide)]
  change iprop(Φ 5 ∗ Φ 6 ∗ Φ 7 ∗ bigSep (Ring.rangeSet 8 0 5) Φ) ⊢ iprop(Φ 7 ∗ Φ 6 ∗ Φ 5 ∗ bigSep (Ring.rangeSet 8 0 5) Φ)
  iintro ⟨H5, H6, H7, H⟩
  isplitl [H7]; · iexact H7
  isplitl [H6]; · iexact H6
  isplitl [H5]; · iexact H5
  iexact H

/-- The kernel on the given weights' buffer. -/
abbrev bodyG : Prog (TpuEff nD τ sig (Elt F) Λ₀ .tc) PUnit :=
  cc0__pipelined_kernel hM (Memref.isWhole_whole _) arg1 harg1 oM (Memref.isWhole_whole _) inM (Memref.isWhole_whole _) outM (Memref.isWhole_whole _)
    scM (Memref.isWhole_whole _) cc0_scratch3 cc0_scratch4

abbrev wP (g : Buf (Elt F) (arg1.view.loc (c : Thread nD τ))) : sProp 𝕄 := arg1.view.loc (c : Thread nD τ) ↦[arg1.view.set]{fullShare} g

/-- The column of row scales the kernel computes from the weights. -/
def scales (g : Buf (Elt F) (arg1.view.loc (c : Thread nD τ))) : Buf (Elt F) (scM.view.loc (c : Thread nD τ)) :=
  (k0_pay1 (arg1.view.readAt (Elt F) (Rect.unit (s := S8192x2) ![0, 0] S8192x2.size inb_S8192x2_S8192x2_0_0).toLoadRect g) : S8192x1.Idx → Elt F .f32)

/-- What the kernel is handed: the weights, every input block, every output block at anything, the slots, the scale column
    at anything, the cells at zero. -/
abbrev PRE (g : Buf (Elt F) (arg1.view.loc (c : Thread nD τ))) (W : Waits sig Unit) : sProp 𝕄 :=
  iprop(wP c arg1 g ∗ (∃ f, scP c f) ∗ rowsP c hM 0 XA ∗ rowsP c hM 1 XA ∗ rowsP c hM 2 XA ∗ bigSep (Ring.homeSet 3 0) (fun b => rowsP c hM b XA)
    ∗ bigSep Finset.univ (fun b => iprop(∃ f, rowsP c oM b f))
    ∗ ((∃ f, slotP c inM 0 f) ∗ (∃ f, slotP c inM 1 f) ∗ (∃ f, slotP c inM 2 f))
    ∗ ((∃ f, slotP c outM 0 f) ∗ (∃ f, slotP c outM 1 f) ∗ (∃ f, slotP c outM 2 f))
    ∗ (cellP c cc0_scratch3 0 ∗ cellP c cc0_scratch3 1 ∗ cellP c cc0_scratch3 2)
    ∗ (cellP c cc0_scratch4 0 ∗ cellP c cc0_scratch4 1 ∗ cellP c cc0_scratch4 2) ∗ owes (c : Thread nD τ) 0 W)
/-- What it hands back: the weights and the input as they were, the output at `Y`, the rest at anything. -/
abbrev POST (g : Buf (Elt F) (arg1.view.loc (c : Thread nD τ))) (Y : Buf (Elt F) (oM.view.loc (c : Thread nD τ))) : sProp 𝕄 :=
  iprop(wP c arg1 g ∗ (∃ f, scP c f) ∗ bigSep Finset.univ (fun b => rowsP c hM b XA)
    ∗ bigSep Finset.univ (fun b => rowsP c oM b Y)
    ∗ ((∃ f, slotP c inM 0 f) ∗ (∃ f, slotP c inM 1 f) ∗ (∃ f, slotP c inM 2 f))
    ∗ ((∃ f, slotP c outM 0 f) ∗ (∃ f, slotP c outM 1 f) ∗ (∃ f, slotP c outM 2 f))
    ∗ (cellP c cc0_scratch3 0 ∗ cellP c cc0_scratch3 1 ∗ cellP c cc0_scratch3 2)
    ∗ (cellP c cc0_scratch4 0 ∗ cellP c cc0_scratch4 1 ∗ cellP c cc0_scratch4 2) ∗ ∃ W, owes (c : Thread nD τ) 0 W)

/-- The scale column after its one store, whatever it held. -/
theorem scales_written (f w : S8192x1.Idx → Elt F .f32) :
    scM.view.writes (Elt F) f [⟨Rect.unit (s := S8192x1) ![0, 0] S8192x1.size inb_S8192x1_S8192x1_0_0, w⟩] = w := by
  have h := View.read_writes_full scM.view f inb_S8192x1_S8192x1_0_0 w []
  generalize scM.view.writes (Elt F) f [⟨Rect.unit (s := S8192x1) ![0, 0] S8192x1.size inb_S8192x1_S8192x1_0_0, w⟩] = z at h ⊢
  exact h

set_option maxHeartbeats 1000000 in
/-- The body, from its entry to its return. -/
theorem bodyRun (g : Buf (Elt F) (arg1.view.loc (c : Thread nD τ))) (W) (Q : PUnit → sProp 𝕄) :
    iprop(PRE c XA arg1 g W ∗ (POST c XA arg1 g (scaled c XA (scales c arg1 g)) -∗ Q ⟨⟩))
      ⊢ wp frame (wpE (defs₀ (F := F)) 𝒱₀ (c : Thread nD τ) none) Set.univ (bodyG arg1 harg1) Q := by
  iintro ⟨⟨Hw, ⟨%fs, HS⟩, Hh0, Hh1, Hh2, Hh, Ho, ⟨⟨%i0, I0⟩, ⟨%i1, I1⟩, ⟨%i2, I2⟩⟩, ⟨O0, O1, O2⟩, ⟨C0, C1, C2⟩, ⟨D0, D1, D2⟩, HW⟩, Hk⟩
  sl_exec
  rw [show scM.view.writes (Elt F) scM.view.junk (bodyRun.sl.HS_1 c arg1 g) = scales c arg1 g from scales_written _ _]
  ihave HR := (resAt_zero c XA (scales c arg1 g)) $$ [HS HW Hh Ho C0 C1 C2 D0 D1 D2 O0 O1 O2]
  · isplitl [HS]; · iexact HS
    isplitl [HW]; · iexists W; iexact HW
    isplitl [Hh]; · iexact Hh
    isplitl [Ho]; · iexact Ho
    isplitl [C0]; · iexists i0; iexact C0
    isplitl [C1]; · iexists i1; iexact C1
    isplitl [C2]; · iexists i2; iexact C2
    isplitl [D0 O0]
    · isplitl [D0]; · iexact D0
      iexact O0
    isplitl [D1 O1]
    · isplitl [D1]; · iexact D1
      iexact O1
    isplitl [D2]; · iexact D2
    iexact O2
  iapply (exec_loop Idealize.ShloMosaic.frame (wpE (defs₀ (F := F)) 𝒱₀ (c : Thread nD τ) none) Set.univ _ _ _ _ _ _ (loopInv c XA arg1 harg1 (scales c arg1 g))) $$ [HR]
  · iexact HR
  iintro %_ HR
  ihave HL := (resAt_last c XA (scales c arg1 g)) $$ [HR]
  · iexact HR
  icases HL with ⟨HS, ⟨%W', HW⟩, Hh, Hd, ⟨C2, I2⟩, ⟨C0, I0⟩, ⟨C1, I1⟩, ⟨%o2, D2⟩, ⟨%o0, D0⟩, ⟨%o1, D1⟩⟩
  sl_exec
  sl_step
  iapply Hk
  isplitl [Hw]; · iexact Hw
  isplitl [HS]; · iexists _; iexact HS
  isplitl [Hh]; · iexact Hh
  isplitl [Hd D2_dst D0_dst D1_dst]
  · iapply (outs_all (fun b => rowsP c oM b (scaled c XA (scales c arg1 g))))
    isplitl [D2_dst]; · iexact D2_dst
    isplitl [D0_dst]; · iexact D0_dst
    isplitl [D1_dst]; · iexact D1_dst
    iexact Hd
  isplitl [I0 I1 I2]
  · isplitl [I0]; · iexact I0
    isplitl [I1]; · iexact I1
    iexact I2
  isplitl [D2_src D0_src D1_src]
  · isplitl [D0_src]; · iexists _; iexact D0_src
    isplitl [D1_src]; · iexists _; iexact D1_src
    iexists _; iexact D2_src
  isplitl [C0 C1 C2]
  · isplitl [C0]; · iexact C0
    isplitl [C1]; · iexact C1
    iexact C2
  isplitl [D0 D1 D2]
  · isplitl [D0]; · iexact D0
    isplitl [D1]; · iexact D1
    iexact D2
  iexists _; iexact HW

end Body

end Cert.Proof.RingIdeal

end
-- ==== Proof.RingIdealLaunch.lean ====
/-
  The launch of `KernelIdeal` around the run of its body: the arrays cut into blocks and slots and joined again, the
  kernel's own cells, and the state every execution of `main` ends in.
-/
module

public import proofs.«01_k».proof.Proof.RingIdeal

@[expose] public section

set_option maxRecDepth 16384

noncomputable section

namespace Cert.Proof.RingIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The blocks of a tall array and the slots of a buffer, as sets of elements -/

abbrev rowSet (b : Fin 8) : Finset S8192x2048.Idx := (Rect.unit (s := S8192x2048) (rowOff b) S1024x2048.size (rowOff_inb b)).set
abbrev slotSet (s : Fin 3) : Finset S3x1024x2048.Idx := (Rect.unit (s := S3x1024x2048) (slotOff s) S1x1024x2048.size (slotOff_inb s)).set

/-- Row `i` lies in block `b` exactly when `i / 1024` is `b`. -/
theorem mem_rowSet (b : Fin 8) (y : S8192x2048.Idx) : y ∈ rowSet b ↔ (y 0).val / 1024 = b.val := by
  rw [Rect.mem_set_unit]
  have hc : (y 1).val < 2048 := (y 1).isLt
  constructor
  · intro H
    have h0 : 1024 * b.val ≤ (y 0).val ∧ (y 0).val < 1024 * b.val + 1024 := H 0
    omega
  · intro H a
    match a with
    | ⟨0, _⟩ => show 1024 * b.val ≤ (y 0).val ∧ (y 0).val < 1024 * b.val + 1024; omega
    | ⟨1, _⟩ => show 0 ≤ (y 1).val ∧ (y 1).val < 0 + 2048; omega

theorem mem_slotSet (s : Fin 3) (y : S3x1024x2048.Idx) : y ∈ slotSet s ↔ (y 0).val = s.val := by
  rw [Rect.mem_set_unit]
  have hr : (y 1).val < 1024 := (y 1).isLt
  have hc : (y 2).val < 2048 := (y 2).isLt
  constructor
  · intro H
    have h0 : s.val ≤ (y 0).val ∧ (y 0).val < s.val + 1 := H 0
    omega
  · intro H a
    match a with
    | ⟨0, _⟩ => show s.val ≤ (y 0).val ∧ (y 0).val < s.val + 1; omega
    | ⟨1, _⟩ => show 0 ≤ (y 1).val ∧ (y 1).val < 0 + 1024; omega
    | ⟨2, _⟩ => show 0 ≤ (y 2).val ∧ (y 2).val < 0 + 2048; omega

theorem rowSet_disjoint : ∀ b b' : Fin 8, b ≠ b' → Disjoint (rowSet b) (rowSet b') := by
  intro b b' hne
  refine Finset.disjoint_left.2 fun y hy hy' => hne (Fin.ext ?_)
  exact ((mem_rowSet b y).1 hy).symm.trans ((mem_rowSet b' y).1 hy')
theorem rowSet_cover : (Finset.univ : Finset (Fin 8)).biUnion rowSet = Finset.univ := by
  ext y
  have h0 : (y 0).val < 8192 := (y 0).isLt
  simp only [Finset.mem_biUnion, Finset.mem_univ, true_and, iff_true]
  exact ⟨⟨(y 0).val / 1024, by omega⟩, (mem_rowSet _ y).2 rfl⟩
theorem slotSet_disjoint : ∀ s s' : Fin 3, s ≠ s' → Disjoint (slotSet s) (slotSet s') := by
  intro s s' hne
  refine Finset.disjoint_left.2 fun y hy hy' => hne (Fin.ext ?_)
  exact ((mem_slotSet s y).1 hy).symm.trans ((mem_slotSet s' y).1 hy')
theorem slotSet_cover : (Finset.univ : Finset (Fin 3)).biUnion slotSet = Finset.univ := by
  ext y
  have h0 : (y 0).val < 3 := (y 0).isLt
  simp only [Finset.mem_biUnion, Finset.mem_univ, true_and, iff_true]
  exact ⟨⟨(y 0).val, h0⟩, (mem_slotSet _ y).2 rfl⟩

section Cut
variable (c : Dev nD)

omit [FloatOps F] in
theorem rows_hM_set (b : Fin 8) : (rows hM b).view.set = rowSet b := View.set_slice_whole _ _
omit [FloatOps F] in
theorem rows_oM_set (b : Fin 8) : (rows oM b).view.set = rowSet b := View.set_slice_whole _ _
omit [FloatOps F] in
theorem slot_in_set (s : Fin 3) : (slot inM s).view.set = slotSet s := (View.set_reshape _ _).trans (View.set_slice_whole _ _)
omit [FloatOps F] in
theorem slot_out_set (s : Fin 3) : (slot outM s).view.set = slotSet s := (View.set_reshape _ _).trans (View.set_slice_whole _ _)

omit [FloatOps F] in
/-- The input whole is its eight blocks. -/
theorem input_eq (f : Buf (Elt F) ((c : Thread nD τ).loc main_arg0)) :
    (((c : Thread nD τ).loc main_arg0) ↦{fullShare} f : sProp 𝕄) = bigSep Finset.univ (fun b => rowsP c hM b f) := by
  rw [Ring.pointsTo_blocks (ℓ := (c : Thread nD τ).loc main_arg0) rowSet rowSet_disjoint rowSet_cover]
  exact bigSep_congr fun b _ => by rw [← rows_hM_set]; rfl
omit [FloatOps F] in
/-- The output whole is its eight blocks. -/
theorem output_eq (f : Buf (Elt F) ((c : Thread nD τ).loc main_v0)) :
    (((c : Thread nD τ).loc main_v0) ↦{fullShare} f : sProp 𝕄) = bigSep Finset.univ (fun b => rowsP c oM b f) := by
  rw [Ring.pointsTo_blocks (ℓ := (c : Thread nD τ).loc main_v0) rowSet rowSet_disjoint rowSet_cover]
  exact bigSep_congr fun b _ => by rw [← rows_oM_set]; rfl

omit [FloatOps F] in
theorem slotP_in (s : Fin 3) (f) : slotP c inM s f = (((c : Thread nD τ).loc cc0_scratch0) ↦[slotSet s]{fullShare} f : sProp 𝕄) :=
  congrArg (fun S => (_ ↦[S]{fullShare} f : sProp 𝕄)) (slot_in_set s)
omit [FloatOps F] in
theorem slotP_out (s : Fin 3) (f) : slotP c outM s f = (((c : Thread nD τ).loc cc0_scratch1) ↦[slotSet s]{fullShare} f : sProp 𝕄) :=
  congrArg (fun S => (_ ↦[S]{fullShare} f : sProp 𝕄)) (slot_out_set s)

/-- The three slots of a buffer, each at anything. -/
abbrev slots3 (B : Memref sig .tc .vmem S3x1024x2048 .f32) : sProp 𝕄 :=
  iprop((∃ f, slotP c B 0 f) ∗ (∃ f, slotP c B 1 f) ∗ (∃ f, slotP c B 2 f))
/-- The three cells of a row, each at zero. -/
abbrev cells3 (A : DmaSems sig S3) : sProp 𝕄 := iprop(cellP c A 0 ∗ cellP c A 1 ∗ cellP c A 2)

omit [FloatOps F] in
theorem cut_in : iprop(∃ f : Buf (Elt F) ((c : Thread nD τ).loc cc0_scratch0), ((c : Thread nD τ).loc cc0_scratch0) ↦{fullShare} f)
    ⊢ (slots3 c inM : sProp 𝕄) := by
  iintro ⟨%f, H⟩
  ihave H3 := (to_entails ((Ring.pointsTo_blocks (Ix := Unit) (Name := ℕ) (U := UU nD τ) (Lvl := ℕ) (q := fullShare) (ℓ := (c : Thread nD τ).loc cc0_scratch0) slotSet slotSet_disjoint slotSet_cover f).trans (Ring.bigSep_fin3 _))) $$ H
  icases H3 with ⟨H0, H1, H2⟩
  isplitl [H0]; · iexists f; iapply (to_entails (slotP_in c 0 f).symm); iexact H0
  isplitl [H1]; · iexists f; iapply (to_entails (slotP_in c 1 f).symm); iexact H1
  iexists f; iapply (to_entails (slotP_in c 2 f).symm); iexact H2
omit [FloatOps F] in
theorem cut_out : iprop(∃ f : Buf (Elt F) ((c : Thread nD τ).loc cc0_scratch1), ((c : Thread nD τ).loc cc0_scratch1) ↦{fullShare} f)
    ⊢ (slots3 c outM : sProp 𝕄) := by
  iintro ⟨%f, H⟩
  ihave H3 := (to_entails ((Ring.pointsTo_blocks (Ix := Unit) (Name := ℕ) (U := UU nD τ) (Lvl := ℕ) (q := fullShare) (ℓ := (c : Thread nD τ).loc cc0_scratch1) slotSet slotSet_disjoint slotSet_cover f).trans (Ring.bigSep_fin3 _))) $$ H
  icases H3 with ⟨H0, H1, H2⟩
  isplitl [H0]; · iexists f; iapply (to_entails (slotP_out c 0 f).symm); iexact H0
  isplitl [H1]; · iexists f; iapply (to_entails (slotP_out c 1 f).symm); iexact H1
  iexists f; iapply (to_entails (slotP_out c 2 f).symm); iexact H2
theorem join_in : (slots3 c inM : sProp 𝕄)
    ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩⟩
  iapply (Ring.pointsTo_blocks_join_exists (ℓ := (c : Thread nD τ).loc cc0_scratch0) slotSet slotSet_disjoint slotSet_cover f0)
  irw [Ring.bigSep_fin3]
  isplitl [H0]; · iexists f0; iapply (to_entails (slotP_in c 0 f0)); iexact H0
  isplitl [H1]; · iexists f1; iapply (to_entails (slotP_in c 1 f1)); iexact H1
  iexists f2; iapply (to_entails (slotP_in c 2 f2)); iexact H2
theorem join_out : (slots3 c outM : sProp 𝕄)
    ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩⟩
  iapply (Ring.pointsTo_blocks_join_exists (ℓ := (c : Thread nD τ).loc cc0_scratch1) slotSet slotSet_disjoint slotSet_cover f0)
  irw [Ring.bigSep_fin3]
  isplitl [H0]; · iexists f0; iapply (to_entails (slotP_out c 0 f0)); iexact H0
  isplitl [H1]; · iexists f1; iapply (to_entails (slotP_out c 1 f1)); iexact H1
  iexists f2; iapply (to_entails (slotP_out c 2 f2)); iexact H2

/-- The kernel's own cells: the three the copies in signal, then the three the copies out signal. -/
abbrev osem : Fin 6 → SemLoc sig := ![.dma (cell cc0_scratch3 0).sem, .dma (cell cc0_scratch3 1).sem, .dma (cell cc0_scratch3 2).sem,
  .dma (cell cc0_scratch4 0).sem, .dma (cell cc0_scratch4 1).sem, .dma (cell cc0_scratch4 2).sem]
theorem ownSemFacts : Pipeline.OwnSemFacts spec0 osem := by decide

omit [FloatOps F] in
theorem ownSems0_eq : (Pipeline.ownSems0 (Ix := Unit) (Name := ℕ) (U := UU nD τ) (Lvl := ℕ) (Val := Elt F) (τ := τ) osem c : sProp 𝕄)
    = iprop(cellP c cc0_scratch3 0 ∗ cellP c cc0_scratch3 1 ∗ cellP c cc0_scratch3 2 ∗ cellP c cc0_scratch4 0 ∗ cellP c cc0_scratch4 1 ∗ cellP c cc0_scratch4 2) := by
  unfold Pipeline.ownSems0
  rw [bigSep_univ_eq_bigSepL [(0 : Fin 6), 1, 2, 3, 4, 5] (by decide) (by decide)]
  rfl

omit [FloatOps F] in
/-- The input whole is its first three blocks and the rest. -/
theorem homes_zero (Φ : Fin 8 → sProp (MT nD τ sig Unit (Elt F) ℕ (UU nD τ) ℕ)) :
    bigSep Finset.univ Φ = iprop(Φ 0 ∗ Φ 1 ∗ Φ 2 ∗ bigSep (Ring.homeSet 3 0) Φ) := by
  have e : (Finset.univ : Finset (Fin 8)) = insert 0 (insert 1 (insert 2 (Ring.homeSet (NB := 8) 3 0))) := by decide
  rw [e, bigSep_insert (by decide), bigSep_insert (by decide), bigSep_insert (by decide)]
  rfl

end Cut

section Launch
variable (m : (ℓ : Loc nD τ sig) → Buf (Elt F) ℓ) (ρ : Dev nD → PrngReg)

abbrev s₀ : MemSt nD τ sig (Elt F) := ⟨m, fun _ => 0, ρ⟩
/-- The input at launch. -/
abbrev XA (c : Dev nD) : Buf (Elt F) (hM.view.loc (c : Thread nD τ)) := m _

abbrev st0 (t : Fin cfg0.N) : Memref sig .tc .vmem S8192x2 .f32 := win0_0.stage (cfg0.slots t 0)
abbrev hst0 (t : Fin cfg0.N) : (st0 t).IsWhole := hstage0_0 0

/-- The weights' block at point `t`. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The scale column of the weights at launch, -/
def SC (c : Dev nD) : Buf (Elt F) (scM.view.loc (c : Thread nD τ)) := scales c (st0 t0_0) ((st0 t0_0).view.rep (iblk m c 0 t0_0))
/-- and the result. -/
def Y (c : Dev nD) : Buf (Elt F) (oM.view.loc (c : Thread nD τ)) := scaled c (XA m c) (SC m c)

/-- What the region holds besides the output. -/
def Φrest (c : Dev nD) : sProp 𝕄 :=
  iprop((∃ f, scP c f) ∗ bigSep Finset.univ (fun b => rowsP c hM b (XA m c)) ∗ slots3 c inM ∗ slots3 c outM ∗ cells3 c cc0_scratch3 ∗ cells3 c cc0_scratch4)
/-- The output before the one point and after it. -/
def Φout (c : Dev nD) : Fin (cfg0.N + 1) → sProp 𝕄
  | ⟨0, _⟩ => bigSep Finset.univ (fun b => iprop(∃ f, rowsP c oM b f))
  | ⟨_ + 1, _⟩ => bigSep Finset.univ (fun b => rowsP c oM b (Y m c))

def dats (_ : Fin 1) (c : Dev nD) : Dat τ (Elt F) Unit ℕ (UU nD τ) ℕ cfg0 c where
  A w := m ((c : Thread nD τ).loc (Pipeline.arrRef spec0 w))
  after w t := match w with
    | ⟨0, _⟩ => iblk m c 0 t
  Φ i := iprop(Φrest m c ∗ Φout m c i)
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [show (dats m 0 c).Φ t0_0.castSucc = iprop(Φrest m c ∗ bigSep Finset.univ (fun b => iprop(∃ f, rowsP c oM b f))) from rfl,
    show (dats m 0 c).Φ t0_0.succ = iprop(Φrest m c ∗ bigSep Finset.univ (fun b => rowsP c oM b (Y m c))) from rfl]
  unfold Dat.owesAt Pipeline.owesWithin
  rw [show (dats m 0 c).owed t0_0.castSucc = 0 from rfl, show (dats m 0 c).owed t0_0.succ = 0 from rfl]
  unfold owns Φrest
  iintro ⟨⟨⟨HS, Hh8, Hin, Hout, Hc3, Hc4⟩, Ho⟩, ⟨%W, -, HW⟩, ⟨%d0, %g0, %hg0, Hw⟩⟩
  ihave Hh4 := (to_entails (homes_zero (fun b => rowsP c hM b (XA m c)))) $$ Hh8
  icases Hh4 with ⟨Hh0, Hh1, Hh2, Hh⟩
  ihave Hw' := (pointsTo_rep_entails (c : Thread nD τ) (st0 t0_0) g0 fullShare) $$ Hw
  rw [hg0]
  sl_rw [prog_eq t0_0]
  iapply (bodyRun c (XA m c) (st0 t0_0) (hst0 t0_0) _ W)
  isplitl [Hw' HS Hh0 Hh1 Hh2 Hh Ho Hin Hout Hc3 Hc4 HW]
  · isplitl [Hw']; · iexact Hw'
    isplitl [HS]; · iexact HS
    isplitl [Hh0]; · iexact Hh0
    isplitl [Hh1]; · iexact Hh1
    isplitl [Hh2]; · iexact Hh2
    isplitl [Hh]; · iexact Hh
    isplitl [Ho]; · iexact Ho
    isplitl [Hin]; · iexact Hin
    isplitl [Hout]; · iexact Hout
    isplitl [Hc3]; · iexact Hc3
    isplitl [Hc4]; · iexact Hc4
    iexact HW
  · iintro ⟨Hw, HS, Hh, Ho, Hin, Hout, Hc3, Hc4, ⟨%W', HW⟩⟩
    isplitl [HS Hh Hin Hout Hc3 Hc4 Ho]
    · isplitr [Ho]
      · isplitl [HS]; · iexact HS
        isplitl [Hh]; · iexact Hh
        isplitl [Hin]; · iexact Hin
        isplitl [Hout]; · iexact Hout
        isplitl [Hc3]; · iexact Hc3
        iexact Hc4
      iexact Ho
    isplitl [HW]
    · iexists W'; isplitr; · ipureintro; exact fun _ _ => Or.inl trivial
      iexact HW
    iexists _; isplitr; · ipureintro; exact View.read_rep _ _
    iexact Hw

/-! ## The run -/

def u₀ : UU nD τ := (initOf (Pipeline.cells cfgs Cert.KernelIdeal.Gen.cellOf_inj) (Pipeline.launchToks cfgs Cert.KernelIdeal.Gen.cellOf_inj), 1)
/-- What of the launch state enters the region and what stays beside it, -/
def intoΦ (c : Dev nD) : sProp 𝕄 :=
  iprop((((c : Thread nD τ).loc main_arg0) ↦{fullShare} XA m c) ∗ (((c : Thread nD τ).loc main_v0) ↦{fullShare} m ((c : Thread nD τ).loc main_v0)) ∗ Pipeline.ownSems0 osem c)
def beside (c : Dev nD) : sProp 𝕄 := ((c : Thread nD τ).loc main_arg1) ↦{fullShare} m ((c : Thread nD τ).loc main_arg1)
/-- and what comes out of it. -/
def outOfΦ (c : Dev nD) : sProp 𝕄 := iprop((((c : Thread nD τ).loc main_arg0) ↦{fullShare} XA m c) ∗ (((c : Thread nD τ).loc main_v0) ↦{fullShare} Y m c))

/-- The buffers the region holds beside its window, each at anything. -/
abbrev scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

omit [FloatOps F] in
theorem scales_whole (c : Dev nD) : (iprop(∃ f, scP c f) : sProp 𝕄)
    = iprop(∃ f : Buf (Elt F) ((c : Thread nD τ).loc cc0_scratch2), ((c : Thread nD τ).loc cc0_scratch2) ↦{fullShare} f) := by
  have e : (scM.view.set : Finset S8192x1.Idx) = Finset.univ := View.set_whole _
  unfold scP
  rw [e]

theorem anyRows (c : Dev nD) (b : Fin 8) (f : Buf (Elt F) (oM.view.loc (c : Thread nD τ))) :
    rowsP c oM b f ⊢ (iprop(∃ f, rowsP c oM b f) : sProp 𝕄) := by
  iintro H; iexists f; iexact H

theorem anyOutput (c : Dev nD) (f : Buf (Elt F) (oM.view.loc (c : Thread nD τ))) :
    bigSep Finset.univ (fun b => rowsP c oM b f) ⊢ (bigSep Finset.univ (fun b => iprop(∃ f, rowsP c oM b f)) : sProp 𝕄) :=
  bigSep_mono (fun b _ => anyRows c b f)

theorem enter (c : Dev nD) : iprop(intoΦ m c ∗ scratch c) ⊢ (dats m 0 c).Φ 0 := by
  rw [show (dats m 0 c).Φ 0 = iprop(Φrest m c ∗ bigSep Finset.univ (fun b => iprop(∃ f, rowsP c oM b f))) from rfl]
  unfold intoΦ Φrest
  rw [ownSems0_eq, input_eq, output_eq, scales_whole]
  iintro ⟨⟨H0, Hv, Ha0, Ha1, Ha2, Hb0, Hb1, Hb2⟩, Hs0, Hs1, Hs2⟩
  ihave Hin := (cut_in c) $$ Hs0
  ihave Hout := (cut_out c) $$ Hs1
  isplitr [Hv]
  · isplitl [Hs2]; · iexact Hs2
    isplitl [H0]; · iexact H0
    isplitl [Hin]; · iexact Hin
    isplitl [Hout]; · iexact Hout
    isplitl [Ha0 Ha1 Ha2]
    · isplitl [Ha0]; · iexact Ha0
      isplitl [Ha1]; · iexact Ha1
      iexact Ha2
    isplitl [Hb0]; · iexact Hb0
    isplitl [Hb1]; · iexact Hb1
    iexact Hb2
  iapply (anyOutput c (m ((c : Thread nD τ).loc main_v0)))
  iexact Hv

theorem leave (c : Dev nD) : (dats m 0 c).Φ (Fin.last cfg0.N) ⊢ iprop(outOfΦ m c ∗ Pipeline.ownSems0 osem c ∗ scratch c) := by
  rw [show (dats m 0 c).Φ (Fin.last cfg0.N) = iprop(Φrest m c ∗ bigSep Finset.univ (fun b => rowsP c oM b (Y m c))) from rfl, ownSems0_eq]
  unfold Φrest outOfΦ
  rw [input_eq, output_eq, scales_whole]
  iintro ⟨⟨HS, H0, Hin, Hout, ⟨Ha0, Ha1, Ha2⟩, ⟨Hb0, Hb1, Hb2⟩⟩, Ho⟩
  isplitl [H0 Ho]
  · isplitl [H0]; · iexact H0
    iexact Ho
  isplitl [Ha0 Ha1 Ha2 Hb0 Hb1 Hb2]
  · isplitl [Ha0]; · iexact Ha0
    isplitl [Ha1]; · iexact Ha1
    isplitl [Ha2]; · iexact Ha2
    isplitl [Hb0]; · iexact Hb0
    isplitl [Hb1]; · iexact Hb1
    iexact Hb2
  isplitl [Hin]; · iapply (join_in c); iexact Hin
  isplitl [Hout]; · iapply (join_out c); iexact Hout
  iexact HS

def finalA (c : Dev nD) (w : Fin cfg0.W) : Buf (Elt F) ((cfg0.win w).arr.view.loc (c : Thread nD τ)) := (dats m 0 c).arrAt w cfg0.N
/-- The arrays no window names, at the end. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v0) = Y m c
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of `main` ends, with the output
    at `Y`, the arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := beside m)
    (hX := fun c => by
      rw [unscopedRest0_eq]
      unfold intoΦ beside
      iintro ⟨⟨H0, H1, Hv⟩, HS, -, -, -⟩; imodintro
      isplitr [H1]
      · isplitl [H0]; · iexact H0
        isplitl [Hv]; · iexact Hv
        iexact HS
      iexact H1)
    (hin := fun c => by
      rw [scopedRest0_eq]
      exact enter m c)
    (hout := fun c => by
      rw [scopedRest0_eq]
      exact leave m c)
    (QY := QY m)
    (hY := fun c s' => by
      unfold outOfΦ beside
      iintro ⟨⟨H0, Hv⟩, H1, HSI⟩
      icombine HSI H0 gives %h0
      icombine HSI H1 gives %h1
      icombine HSI Hv gives %h2
      imodintro
      isplitr; · ipureintro; exact ⟨Buf.eq_of_forall_mem_univ h0, Buf.eq_of_forall_mem_univ h1, Buf.eq_of_forall_mem_univ h2⟩
      iexact HSI)
    (hQ := fun _ hh hz => ⟨hh, hz⟩)

theorem finalA_in (c : Dev nD) (w : Fin cfg0.W) (hw : (cfg0.win w).isOut = false) :
    finalA m c w = m ((cfg0.win w).arr.view.loc (c : Thread nD τ)) :=
  (dats (F := F) m 0 c).arrAt_in w hw _

/-- The same, array by array. -/
theorem run_out : θ_run defs (onTc (τ := τ) (main (F := F))) ⟨m, fun _ => 0, ρ⟩ (fun r =>
    (∀ c : Dev nD, r.2.mem ((c.tc : Thread nD τ).loc main_v0) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ hh => ⟨fun c => ⟨(hh.1 c).2.2.2, (hh.1 c).2.1, (hh.1 c).2.2.1, ((hh.1 c).1 0).trans (finalA_in m c 0 rfl)⟩, hh.2⟩) (run_main m ρ)

end Launch

end Cert.Proof.RingIdeal

end
-- ==== Proof.RefRoundTrip.lean ====
/-
  The reference's token traffic: the rows are sorted by expert, sorted again, and put back where they came from. Every
  index table on the way holds a permutation of the rows, so the four takes undo each other.
-/
module

public import proofs.«01_k».proof.Defs
public import proofs.«01_k».proof.Proof.Gen.ReferenceIdeal
public import proofs.«01_k».proof.Proof.Gen.ReferenceIdeal.Run
public import Idealize.ShloMosaic.Lib.SortFacts
public import Idealize.ShloMosaic.Lib.SortNet.HostSort
public import Idealize.ShloMosaic.Lib.Routing.OpsSet
public import Idealize.ShloMosaic.Lib.Routing.OpsSearch
public import Idealize.ShloMosaic.Lib.ReduceAll

@[expose] public section

noncomputable section

namespace Cert.Proof.RoundTrip

open Cert.ReferenceIdeal Cert.ReferenceIdeal.Gen Idealize.ShloMosaic Idealize.ShloMosaic.ValueIdx

variable {F : FTy → Type} [FloatOps F]

/-! ## The reference's steps, named -/

/-- The positions 0, 1, 2, … -/
abbrev places : IVec S16384 32 := iotaInDim S16384 32 0
/-- The same word everywhere. -/
abbrev fill (n : BitVec 32) : IVec S16384 32 := broadcastInDim S16384 ![] bcast_S_S16384 (constantI S_ 32 n)
/-- `argsort` of the keys. -/
abbrev order (k : IVec S16384 32) : IVec S16384 32 := (Host.sort2 S16384 0 comparator_i32_i32_d0 k places).2
/-- A table of positions as a column, a negative one counted from the end. -/
abbrev column (i : IVec S16384 32) : IVec S16384x1 32 :=
  broadcastInDim S16384x1 ![0] bcast_S16384_S16384x1_0 (select (cmpi .slt i (fill 0#32)) (addi i (fill 16384#32)) i)
/-- Which entries of a column name a row. -/
abbrev inside (w : IVec S16384x1 32) : IVec S16384 1 :=
  Host.reduce IntOp.andi (andi (cmpi .sge w (broadcastInDim S16384x1 ![] bcast_S_S16384x1 (constantI S_ 32 0#32)))
    (cmpi .sle w (broadcastInDim S16384x1 ![0, 1] bcast_S1x1_S16384x1_0_1 (broadcastInDim S1x1 ![1] bcast_S1_S1x1_1 (constantI S1 32 16383#32)))))
    (constantI S_ 1 1#1) reducesTo_S16384x1_S16384_d1 h_S_
/-- The rows of `x` that a table names. -/
abbrev takeRows (x : Vec F S16384x2048 .f32) (i : IVec S16384 32) : Vec F S16384x2048 .f32 :=
  select (broadcastInDim S16384x2048 ![0] bcast_S16384_S16384x2048_0 (inside (column i)))
    (Host.gather gather_S16384x2048_S16384x1_S16384x2048_1_0_n_n_0_1_12048 x (column i))
    (broadcastInDim S16384x2048 ![] bcast_S_S16384x2048 (constant S_ .f32 0x7FC00000#32))
/-- The keys that a table names. -/
abbrev takeKeys (x : IVec S16384 32) (i : IVec S16384 32) : IVec S16384 32 :=
  select (inside (column i)) (Host.gather gather_S16384_S16384x1_S16384_n_0_n_n_0_1_1 x (column i))
    (broadcastInDim S16384 ![] bcast_S_S16384 (constantI S_ 32 2147483648#32))
/-- The table that undoes a table of positions. -/
abbrev undo (i : IVec S16384 32) : IVec S16384 32 :=
  Host.scatter scatter_S16384_S16384x1_S16384_n_0_0_1 (fun _ b => b) (fill 0#32) (column i) places
/-- Each row twice. -/
abbrev doubled (h : Vec F S8192x2048 .f32) : Vec F S16384x2048 .f32 :=
  shapeCast _ (broadcastInDim S8192x2x2048 ![0, 1, 2] bcast_S8192x1x2048_S8192x2x2048_0_1_2 (broadcastInDim S8192x1x2048 ![0, 2] bcast_S8192x2048_S8192x1x2048_0_2 h)) shapeCasts_S8192x2x2048_S16384x2048
/-- The rows through the round trip. -/
abbrev there (x : Vec F S16384x2048 .f32) (σ τ : IVec S16384 32) : Vec F S16384x2048 .f32 :=
  takeRows (takeRows (takeRows (takeRows x σ) τ) (order τ)) (undo σ)
/-- The weighted sum over the two copies of a row. -/
abbrev combine (x : Vec F S16384x2048 .f32) (w : Vec F S8192x2 .f32) : Vec F S8192x2048 .f32 :=
  Host.reduceAdd (mulf (shapeCast _ x shapeCasts_S16384x2048_S8192x2x2048)
    (broadcastInDim S8192x2x2048 ![0, 1, 2] bcast_S8192x2x1_S8192x2x2048_0_1_2 (broadcastInDim S8192x2x1 ![0, 1] bcast_S8192x2_S8192x2x1_0_1 w)))
    (constant S_ .f32 0x00000000#32) reducesTo_S8192x2x2048_S8192x2048_d1 h_S_
abbrev keys (k : IVec S8192x2 32) : IVec S16384 32 := shapeCast _ k shapeCasts_S8192x2_S16384

/-- The reference's result in these names. -/
theorem result_eq (m : (ℓ : Loc nD τ sig) → Buf (Elt F) ℓ) (c : Dev nD) :
    Cert.ReferenceIdeal.Value.res_main_v25 m c
      = combine (there (doubled (m ((c.tc : Thread nD τ).loc main_arg0))) (order (keys (m ((c.tc : Thread nD τ).loc main_arg1))))
          (order (takeKeys (keys (m ((c.tc : Thread nD τ).loc main_arg1))) (order (keys (m ((c.tc : Thread nD τ).loc main_arg1)))))))
          (m ((c.tc : Thread nD τ).loc main_arg2)) := by
  unfold Cert.ReferenceIdeal.Value.res_main_v25
  rfl

/-! ## Tables that hold a permutation -/

/-- The table `i` holds `σ`. -/
def Holds (i : IVec S16384 32) (σ : Fin 16384 → Fin 16384) : Prop := ∀ p : Fin 16384, i (ix1 p) = BitVec.ofNat 32 (σ p).val

theorem column_at {i : IVec S16384 32} {σ : Fin 16384 → Fin 16384} (h : Holds i σ) (p : Fin 16384) :
    column i (ix2 p (0 : Fin 1)) = BitVec.ofNat 32 (σ p).val := by
  have hb := (σ p).isLt
  refine (Routing.bcCol _ _ p).trans ?_
  refine Eq.trans ?_ (h p)
  refine Routing.wrap_of_lt _ _ ?_
  rw [h p, BitVec.toNat_ofNat]
  omega

theorem inside_all {i : IVec S16384 32} {σ : Fin 16384 → Fin 16384} (h : Holds i σ) (j : S16384.Idx) : inside (column i) j = 1#1 := by
  refine Host.reduce_andi_one _ _ _ _ _ rfl fun y => ?_
  obtain ⟨p, rfl⟩ : ∃ p : Fin 16384, y = ix2 p (0 : Fin 1) := ⟨y 0, by
    funext a
    match a with
    | ⟨0, _⟩ => rfl
    | ⟨1, _⟩ => exact Subsingleton.elim (α := Fin 1) _ _⟩
  have hb := (σ p).isLt
  have e := column_at h p
  have h1 : IntOp.cmpi .sge (column i (ix2 p (0 : Fin 1))) 0#32 = 1#1 := by
    rw [e, StableHlo.Predicate.sge_iff_toNat (by rw [BitVec.toNat_ofNat]; omega) (by decide)]; exact Nat.zero_le _
  have h2 : IntOp.cmpi .sle (column i (ix2 p (0 : Fin 1))) 16383#32 = 1#1 := by
    rw [e, StableHlo.Predicate.sle_iff_toNat (by rw [BitVec.toNat_ofNat]; omega) (by decide), BitVec.toNat_ofNat]
    show _ ≤ 16383
    omega
  show IntOp.andi (IntOp.cmpi .sge (column i (ix2 p (0 : Fin 1))) 0#32) (IntOp.cmpi .sle (column i (ix2 p (0 : Fin 1))) 16383#32) = 1#1
  rw [h1, h2]; decide

theorem select_at {s : Shape} {α : Type} (c : IVec s 1) (x y : s.Idx → α) (j : s.Idx) : select c x y j = Scalar.select (c j) (x j) (y j) := rfl

/-- A take by such a table reads row `σ p` at `p`. -/
theorem takeRows_at {i : IVec S16384 32} {σ : Fin 16384 → Fin 16384} (h : Holds i σ) (x : Vec F S16384x2048 .f32) (p : Fin 16384) (q : Fin 2048) :
    takeRows x i (ix2 p q) = x (ix2 (σ p) q) := by
  have e : broadcastInDim S16384x2048 ![0] bcast_S16384_S16384x2048_0 (inside (column i)) (ix2 p q) = 1#1 := inside_all h _
  have g : Host.gather gather_S16384x2048_S16384x1_S16384x2048_1_0_n_n_0_1_12048 x (column i) (ix2 p q) = x (ix2 (σ p) q) :=
    Routing.gather_row _ rfl rfl rfl rfl rfl x _ p q (σ p) (column_at h p) (by omega)
  rw [takeRows, select_at, e, g]
  rfl

/-- Which of two rows the sort puts first. -/
def before (k : IVec S16384 32) (a b : Fin 16384) : Bool := IntOp.cmpi .slt (k (ix1 a)) (k (ix1 b)) == 1#1

theorem places_at (p : Fin 16384) : places (ix1 p) = BitVec.ofNat 32 p.val := rfl

theorem along_ix1 (j : S16384.Idx) (p : Fin 16384) : j.along (0 : Fin 1) p = ix1 p :=
  (Shape.Idx.along_rank1 (n := 16384) j p).trans (Routing.ofFin_eq_ix1 p)

theorem order_at (k : IVec S16384 32) (p : Fin 16384) : order k (ix1 p) = BitVec.ofNat 32 (sortedFrom (before k) p).val := by
  have e : (fun a b : Fin 16384 => comparator_i32_i32_d0 (k ((ix1 p : S16384.Idx).along (0 : Fin 1) a), places ((ix1 p : S16384.Idx).along (0 : Fin 1) a))
      (k ((ix1 p : S16384.Idx).along (0 : Fin 1) b), places ((ix1 p : S16384.Idx).along (0 : Fin 1) b)) == 1#1) = before k := by
    funext a b
    rw [along_ix1, along_ix1]
    rfl
  show places ((ix1 p : S16384.Idx).along (0 : Fin 1) (sortedFrom (fun a b : Fin 16384 => comparator_i32_i32_d0 (k ((ix1 p : S16384.Idx).along (0 : Fin 1) a), places ((ix1 p : S16384.Idx).along (0 : Fin 1) a))
      (k ((ix1 p : S16384.Idx).along (0 : Fin 1) b), places ((ix1 p : S16384.Idx).along (0 : Fin 1) b)) == 1#1) p)) = _
  rw [e]
  exact (congrArg places (along_ix1 (ix1 p) (sortedFrom (before k) p))).trans (places_at _)

/-- Whatever the keys, `argsort` holds a permutation. -/
theorem order_holds (k : IVec S16384 32) : ∃ σ : Fin 16384 → Fin 16384, Function.Bijective σ ∧ Holds (order k) σ
    ∧ ∀ τ : Fin 16384 → Fin 16384, Holds k τ → Function.Injective τ → ∀ p, τ (σ p) = p := by
  refine ⟨sortedFrom (before k), ⟨sortedFrom_injective _, sortedFrom_surjective _⟩, fun p => order_at k p, fun τ hk hτ p => ?_⟩
  have hb : Function.Bijective τ := Finite.injective_iff_bijective.mp hτ
  have hB : before k = fun a b => decide ((τ a).val < (τ b).val) := by
    funext a b
    have ha := (τ a).isLt
    have hb := (τ b).isLt
    show (IntOp.cmpi .slt (k (ix1 a)) (k (ix1 b)) == 1#1) = _
    rw [hk a, hk b, Bool.eq_iff_iff, beq_iff_eq, decide_eq_true_iff,
      StableHlo.Predicate.slt_iff_toNat (by rw [BitVec.toNat_ofNat]; omega) (by rw [BitVec.toNat_ofNat]; omega),
      BitVec.toNat_ofNat, BitVec.toNat_ofNat, Nat.mod_eq_of_lt (by omega), Nat.mod_eq_of_lt (by omega)]
  let L := (List.finRange 16384).map (Equiv.ofBijective τ hb).symm
  have hL : L.length = 16384 := by simp only [L, List.length_map, List.length_finRange]
  have hperm : L.Perm (List.finRange 16384) := (List.perm_ext_iff_of_nodup
    ((List.nodup_finRange _).map (Equiv.injective _)) (List.nodup_finRange _)).2 fun a =>
      ⟨fun _ => List.mem_finRange a, fun _ => List.mem_map.2 ⟨τ a, List.mem_finRange _, (Equiv.ofBijective τ hb).symm_apply_apply a⟩⟩
  have hs : L.Pairwise fun a b => (τ a).val < (τ b).val := by
    refine List.pairwise_map.2 ((List.pairwise_lt_finRange _).imp fun {a b} hab => ?_)
    rw [(Equiv.ofBijective τ hb).apply_symm_apply a |> fun h => (h : τ _ = a), (Equiv.ofBijective τ hb).apply_symm_apply b |> fun h => (h : τ _ = b)]
    exact hab
  rw [hB, SortNet.sortedFrom_eq_getElem_of_pairwise_lt (fun a => (τ a).val) L hperm hs p (by rw [hL]; exact p.isLt)]
  have e : L[p.val]'(by rw [hL]; exact p.isLt) = (Equiv.ofBijective τ hb).symm p := by
    simp only [L, List.getElem_map, List.getElem_finRange]
    rfl
  rw [e]
  exact (Equiv.ofBijective τ hb).apply_symm_apply p

/-- The table that undoes a permutation holds its inverse. -/
theorem undo_at {i : IVec S16384 32} {σ : Fin 16384 → Fin 16384} (h : Holds i σ) (hσ : Function.Injective σ) (p : Fin 16384) :
    undo i (ix1 (σ p)) = BitVec.ofNat 32 p.val := by
  refine (Routing.scatter_set _ rfl rfl rfl _ (column i) places (fun n => if h : n < 16384 then (σ ⟨n, h⟩).val else 0)
    (fun j => ?_) (fun j => ?_) (σ p) (BitVec.ofNat 32 p.val) (fun j hj => ?_)).1 ⟨p, ?_⟩
  · rw [dif_pos j.isLt]; exact column_at h j
  · rw [dif_pos j.isLt]; have := (σ j).isLt; show (σ j).val < _; omega
  · rw [dif_pos j.isLt] at hj
    have e : j = p := hσ (Fin.ext hj)
    rw [e]; rfl
  · rw [dif_pos p.isLt]

/-- The round trip gives every row back. -/
theorem there_eq (x : Vec F S16384x2048 .f32) (k : IVec S16384 32) (k' : IVec S16384 32) : there x (order k) (order k') = x := by
  obtain ⟨σ, hσ, hσk, -⟩ := order_holds k
  obtain ⟨τ, hτ, hτk, -⟩ := order_holds k'
  obtain ⟨ρ, hρ, hρk, hinv⟩ := order_holds (order k')
  have hτρ := hinv τ hτk hτ.1
  funext y
  obtain ⟨p, q, rfl⟩ : ∃ (p : Fin 16384) (q : Fin 2048), y = ix2 p q := ⟨y 0, y 1, by
    funext a
    match a with
    | ⟨0, _⟩ => rfl
    | ⟨1, _⟩ => rfl⟩
  obtain ⟨s, rfl⟩ := hσ.2 p
  have hu : Holds (undo (order k)) (fun p => (Equiv.ofBijective σ hσ).symm p) := fun p => by
    obtain ⟨r, rfl⟩ := hσ.2 p
    rw [undo_at hσk hσ.1 r]
    exact congrArg (fun t : Fin 16384 => BitVec.ofNat 32 t.val) ((Equiv.ofBijective σ hσ).symm_apply_apply r).symm
  rw [there, takeRows_at hu, takeRows_at hρk, takeRows_at hτk, takeRows_at hσk, hτρ]
  exact congrArg (fun t => x (ix2 t q)) (congrArg σ ((Equiv.ofBijective σ hσ).symm_apply_apply s))

end Cert.Proof.RoundTrip

end
-- ==== Proof.Values.lean ====
/-
  Both results at an index, over the extended reals: the kernel's row scaled by the sum of its two weights, the
  reference's sum of its two copies, each times its own weight. They agree where the inputs are finite.
-/
module

public import proofs.«01_k».proof.Proof.RefRoundTrip
public import proofs.«01_k».proof.Proof.RingIdealLaunch
public import Idealize.ShloMosaic.PureOps.Ideal.Laws
public import Idealize.ShloMosaic.Lib.VecWindow

@[expose] public section

noncomputable section

/-! ## The reference -/

namespace Cert.Proof.RoundTrip

open Cert.ReferenceIdeal Cert.ReferenceIdeal.Gen Idealize.ShloMosaic.ValueIdx
open Idealize.ShloMosaic hiding ix1 ix2 ix3

/-- Row `2i + k` of the doubled array is row `i`. -/
theorem doubled_at {F : FTy → Type} [FloatOps F] (h : Vec F S8192x2048 .f32) (i : Fin 8192) (k : Fin 2) (j : Fin 2048) :
    shapeCast S8192x2x2048 (doubled h) shapeCasts_S16384x2048_S8192x2x2048 (ix3 i k j) = h (ix2 i j) := by
  have hi := i.isLt
  have hk := k.isLt
  refine (shapeCast_apply _ _ _ (ix2 (⟨2 * i.val + k.val, by omega⟩ : Fin 16384) j) ?_).trans ?_
  · rw [Shape.rowMajor_val_three, Shape.rowMajor_val_two]
    show (2 * i.val + k.val) * 2048 + j.val = (i.val * 2 + k.val) * 2048 + j.val
    omega
  refine (shapeCast_apply _ _ _ (ix3 i k j) ?_).trans ?_
  · rw [Shape.rowMajor_val_three, Shape.rowMajor_val_two]
    show (i.val * 2 + k.val) * 2048 + j.val = (2 * i.val + k.val) * 2048 + j.val
    omega
  refine (broadcastInDim_apply _ _ _ _ (ix3 i (0 : Fin 1) j) fun a => ?_).trans (broadcastInDim_apply _ _ _ _ (ix2 i j) fun a => ?_)
  · match a with
    | ⟨0, _⟩ => rfl
    | ⟨1, _⟩ => rfl
    | ⟨2, _⟩ => rfl
  · match a with
    | ⟨0, _⟩ => rfl
    | ⟨1, _⟩ => rfl

/-- The weights laid along the rows. -/
theorem weights_at {F : FTy → Type} [FloatOps F] (w : Vec F S8192x2 .f32) (i : Fin 8192) (k : Fin 2) (j : Fin 2048) :
    broadcastInDim S8192x2x2048 ![0, 1, 2] bcast_S8192x2x1_S8192x2x2048_0_1_2 (broadcastInDim S8192x2x1 ![0, 1] bcast_S8192x2_S8192x2x1_0_1 w) (ix3 i k j)
      = w (ix2 i k) := by
  refine (broadcastInDim_apply _ _ _ _ (ix3 i k (0 : Fin 1)) fun a => ?_).trans (broadcastInDim_apply _ _ _ _ (ix2 i k) fun a => ?_)
  · match a with
    | ⟨0, _⟩ => rfl
    | ⟨1, _⟩ => rfl
    | ⟨2, _⟩ => rfl
  · match a with
    | ⟨0, _⟩ => rfl
    | ⟨1, _⟩ => rfl

theorem lift_at (r : S8192x2x2048.Reduces [1] S8192x2048) (i : Fin 8192) (j : Fin 2048) (k : Fin 2) : r.lift (ix2 i j) k = ix3 i k j := by
  funext a
  match a with
  | ⟨0, _⟩ => exact Fin.ext rfl
  | ⟨1, _⟩ => exact Fin.ext rfl
  | ⟨2, _⟩ => exact Fin.ext rfl

theorem combine_at (h : Vec Ideal S8192x2048 .f32) (w : Vec Ideal S8192x2 .f32) (i : Fin 8192) (j : Fin 2048) :
    combine (F := Ideal) (doubled h) w (ix2 i j) = (h (ix2 i j) * w (ix2 i 0) + h (ix2 i j) * w (ix2 i 1) : EReal) := by
  have r : S8192x2x2048.Reduces [1] S8192x2048 := by decide
  have z : Ideal.ofBits .f32 0x00000000#32 = 0 := by simp [Ideal.ofBits, Ideal.ieee]
  refine (Ideal.hostReduceAdd_single reducesTo_S8192x2x2048_S8192x2048_d1 r _ (Ideal.ofBits .f32 0x00000000#32) (ix2 i j)).trans ?_
  have e : ∀ k : Fin 2, mulf (F := Ideal) (φ := .f32) (shapeCast S8192x2x2048 (doubled h) shapeCasts_S16384x2048_S8192x2x2048)
      (broadcastInDim S8192x2x2048 ![0, 1, 2] bcast_S8192x2x1_S8192x2x2048_0_1_2 (broadcastInDim S8192x2x1 ![0, 1] bcast_S8192x2_S8192x2x1_0_1 w))
      (r.lift (ix2 i j) k) = (h (ix2 i j) * w (ix2 i k) : EReal) := fun k => by
    rw [lift_at]
    exact congrArg₂ (fun a b : EReal => a * b) (doubled_at h i k j) (weights_at w i k j)
  rw [z, zero_add]
  exact (Fintype.sum_congr _ _ e).trans (Fin.sum_univ_two _)

/-- The token rows and the routing weights, as extended reals. -/
def tokens (m : (ℓ : Loc nD τ sig) → Buf (Elt Ideal) ℓ) (c : Dev nD) : S8192x2048.Idx → EReal := m ((c.tc : Thread nD τ).loc main_arg0)
def weights (m : (ℓ : Loc nD τ sig) → Buf (Elt Ideal) ℓ) (c : Dev nD) : S8192x2.Idx → EReal := m ((c.tc : Thread nD τ).loc main_arg2)

/-- The reference's result at an index. -/
theorem result_at (m : (ℓ : Loc nD τ sig) → Buf (Elt Ideal) ℓ) (c : Dev nD) (i : Fin 8192) (j : Fin 2048) :
    Cert.ReferenceIdeal.Value.res_main_v25 m c (ix2 i j)
      = (tokens m c (ix2 i j) * weights m c (ix2 i 0)
        + tokens m c (ix2 i j) * weights m c (ix2 i 1) : EReal) := by
  rw [result_eq, there_eq]
  exact combine_at _ _ i j

end Cert.Proof.RoundTrip

/-! ## The kernel -/

namespace Cert.Proof.RingIdeal

open Cert.KernelIdeal Cert.KernelIdeal.Gen Idealize.ShloMosaic.ValueIdx Idealize.ShloMosaic.TcCoe
open Idealize.ShloMosaic hiding ix1 ix2 ix3

theorem lift_at (r : S8192x2.Reduces [1] S8192) (i : Fin 8192) (k : Fin 2) : r.lift (ix1 i) k = ix2 i k := by
  funext a
  match a with
  | ⟨0, _⟩ => exact Fin.ext rfl
  | ⟨1, _⟩ => exact Fin.ext rfl

/-- The column of scales at a row: the sum of the row's two weights. -/
theorem pay1_at (w : Vec Ideal S8192x2 .f32) (i : Fin 8192) : k0_pay1 (F := Ideal) w (ix2 i (0 : Fin 1)) = (w (ix2 i 0) + w (ix2 i 1) : EReal) := by
  unfold k0_pay1
  refine (shapeCast_apply _ _ _ (ix2 i (0 : Fin 1)) rfl).trans ((Routing.cast12 _ _ i (0 : Fin 1) i ?_).trans ?_)
  · show i.val = i.val * 1 + 0
    omega
  refine (Ideal.multiReduction_add_single w _ _ _ _ (ix1 i)).trans ?_
  exact (Fintype.sum_congr _ _ fun k => congrArg w (lift_at _ i k)).trans (Fin.sum_univ_two _)

/-- The staged window is the whole array of weights. -/
theorem iblk_eq {F : FTy → Type} [FloatOps F] (m : (ℓ : Loc nD τ sig) → Buf (Elt F) ℓ) (c : Dev nD) :
    iblk m c 0 t0_0 = m ((c.tc : Thread nD τ).loc main_arg2) := by
  unfold iblk
  funext y
  rw [View.read_apply]
  refine congrArg (m ((c.tc : Thread nD τ).loc main_arg2)) (funext fun a => Fin.ext ?_)
  match a with
  | ⟨0, _⟩ =>
    show 0 * 8192 + 1 * (y (0 : Fin 2)).val = (y (0 : Fin 2)).val
    omega
  | ⟨1, _⟩ =>
    show 0 * 2 + 1 * (y (1 : Fin 2)).val = (y (1 : Fin 2)).val
    omega

/-- The token rows and the routing weights, as extended reals. -/
def tokens (m : (ℓ : Loc nD τ sig) → Buf (Elt Ideal) ℓ) (c : Dev nD) : S8192x2048.Idx → EReal := m ((c.tc : Thread nD τ).loc main_arg0)
def weights (m : (ℓ : Loc nD τ sig) → Buf (Elt Ideal) ℓ) (c : Dev nD) : S8192x2.Idx → EReal := m ((c.tc : Thread nD τ).loc main_arg2)

/-- The kernel's result at an index. -/
theorem Y_at (m : (ℓ : Loc nD τ sig) → Buf (Elt Ideal) ℓ) (c : Dev nD) (i : Fin 8192) (j : Fin 2048) :
    (Y m c : S8192x2048.Idx → EReal) (ix2 i j)
      = (tokens m c (ix2 i j)
          * (weights m c (ix2 i 0) + weights m c (ix2 i 1)) : EReal) := by
  have e : SC m c = k0_pay1 (F := Ideal) (m ((c.tc : Thread nD τ).loc main_arg2)) := by
    unfold SC scales
    rw [iblk_eq]
    exact congrArg k0_pay1 (View.readAt_rep_full _ _ _)
  unfold Y scaled
  rw [e]
  exact congrArg (fun t : EReal => tokens m c (ix2 i j) * t) (pay1_at _ i)

end Cert.Proof.RingIdeal

end
-- ==== Proof.Finite.lean ====
/-
  What the precondition says of the inputs: every token entry and every routing weight is a real number. Over the reals
  a row times the sum of its weights is the sum of the row times each weight.
-/
module

public import proofs.«01_k».proof.Defs
public import Idealize.ShloMosaic.Lib.Pipeline.Value
public import Idealize.ShloMosaic.Lib.Routing.OpsSearch

@[expose] public section

noncomputable section

namespace Cert.Proof.Finite

open Cert.Pre_finite_inputs Idealize.ShloMosaic Idealize.ShloMosaic.ValueIdx

/-- The shape facts the precondition states. -/
instance facts : Cert.Pre_finite_inputs.Facts where
  slices_S8192x2_S8192x1_0_0 := by decide
  shapeCasts_S8192x1_S8192 := by decide
  bcast_S8192_S8192x1_0 := by decide
  bcast_S_S8192x1 := by decide
  slices_S8192x2_S8192x1_0_1 := by decide
  bcast_S_S8192x2048 := by decide
  bcast_S8192x1_S8192x2048_0_1 := by decide

/-- Both bits of a conjunction that came out 1. -/
theorem and_bits {a b : BitVec 1} (h : IntOp.andi a b = 1#1) : a = 1#1 ∧ b = 1#1 := by
  revert h
  unfold IntOp.andi
  revert a b
  decide

/-- A magnitude below infinity is a real number's. -/
theorem real_of_below {x : EReal} (h : Ideal.cmp .olt (max x (-x)) (Ideal.ofBits .f32 0x7F800000#32) = 1#1) : ∃ r : ℝ, x = (r : EReal) := by
  have t : Ideal.ofBits .f32 0x7F800000#32 = ⊤ := by simp [Ideal.ofBits, Ideal.ieee]
  rw [t] at h
  induction x with
  | bot => exact absurd h (by simp [Ideal.cmp])
  | top => exact absurd h (by simp [Ideal.cmp])
  | coe r => exact ⟨r, rfl⟩

variable (h : FVec Ideal S8192x2048 .f32) (k : IVec S8192x2 32) (w : FVec Ideal S8192x2 .f32)

/-- A column of the weights' magnitudes, read at a row. -/
theorem column_at (o : Fin 2 → Nat) (hs : S8192x2.Slices o S8192x1) (q : Fin 2) (h0 : o 0 = 0) (h1 : o 1 = q.val) (i : Fin 8192) (j : Fin 2048) :
    broadcastInDim S8192x2048 ![0, 1] Facts.bcast_S8192x1_S8192x2048_0_1
      (cmpf (F := Ideal) (φ := .f32) .olt
        (broadcastInDim S8192x1 ![0] Facts.bcast_S8192_S8192x1_0 (Host.absf (shapeCast S8192 (extractStridedSlice S8192x1 o w hs) Facts.shapeCasts_S8192x1_S8192)))
        (broadcastInDim S8192x1 ![] Facts.bcast_S_S8192x1 (constant S_ .f32 0x7F800000#32))) (ix2 i j)
      = Ideal.cmp .olt (max (w (ix2 i q)) (-(w (ix2 i q) : EReal))) (Ideal.ofBits .f32 0x7F800000#32) := by
  refine (broadcastInDim_apply _ _ _ _ (ix2 i (0 : Fin 1)) fun a => ?_).trans ?_
  · match a with
    | ⟨0, _⟩ => rfl
    | ⟨1, _⟩ => rfl
  have e : shapeCast S8192 (extractStridedSlice S8192x1 o w hs) Facts.shapeCasts_S8192x1_S8192 (ix1 i) = w (ix2 i q) := by
    refine (Routing.cast21 _ _ i (0 : Fin 1) i ?_).trans (congrArg w (funext fun a => Fin.ext ?_))
    · show i.val = i.val * 1 + 0
      omega
    · match a with
      | ⟨0, _⟩ =>
        show o 0 + i.val = i.val
        omega
      | ⟨1, _⟩ =>
        show o 1 + 0 = q.val
        omega
  show Ideal.cmp .olt (broadcastInDim S8192x1 ![0] Facts.bcast_S8192_S8192x1_0 (Host.absf (shapeCast S8192 (extractStridedSlice S8192x1 o w hs) Facts.shapeCasts_S8192x1_S8192)) (ix2 i (0 : Fin 1)))
    (Ideal.ofBits .f32 0x7F800000#32) = _
  rw [Routing.bcCol]
  show Ideal.cmp .olt (max (shapeCast S8192 (extractStridedSlice S8192x1 o w hs) Facts.shapeCasts_S8192x1_S8192 (ix1 i)) (-(shapeCast S8192 (extractStridedSlice S8192x1 o w hs) Facts.shapeCasts_S8192x1_S8192 (ix1 i) : EReal))) _ = _
  rw [e]

/-- Under the precondition the entry and its row's two weights are real numbers. -/
theorem finite_at (hp : Cert.Pre_finite_inputs.fn (F := Ideal) h k w = fun _ => 1#1) (i : Fin 8192) (j : Fin 2048) :
    (∃ r : ℝ, h (ix2 i j) = (r : EReal)) ∧ (∃ r : ℝ, w (ix2 i 0) = (r : EReal)) ∧ (∃ r : ℝ, w (ix2 i 1) = (r : EReal)) := by
  have hb := congrFun hp (ix2 i j)
  unfold Cert.Pre_finite_inputs.fn at hb
  obtain ⟨hb, h2⟩ := and_bits hb
  obtain ⟨h0, h1⟩ := and_bits hb
  exact ⟨real_of_below h0, real_of_below ((column_at w ![0, 0] Facts.slices_S8192x2_S8192x1_0_0 0 rfl rfl i j).symm.trans h1), real_of_below ((column_at w ![0, 1] Facts.slices_S8192x2_S8192x1_0_1 1 rfl rfl i j).symm.trans h2)⟩

/-- Over the reals the two results are one. -/
theorem mul_sum {a b c : EReal} (ha : ∃ r : ℝ, a = (r : EReal)) (hb : ∃ r : ℝ, b = (r : EReal)) (hc : ∃ r : ℝ, c = (r : EReal)) :
    a * (b + c) = a * b + a * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, mul_add]

end Cert.Proof.Finite

end
-- ==== Proof.lean ====
/-
  The certificate's claim. The kernel's run (Proof/RingIdealLaunch.lean) ends with its arguments unchanged, its counters at
  zero and every row scaled by the sum of its two weights; the program and its idealization are one text, so the run is
  both's. The reference's run ends at its composed term (Proof/Gen/ReferenceIdeal/Run.lean), which Proof/Values.lean reads
  at an index; where the inputs are finite the two results agree (Proof/Finite.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RingIdealLaunch
public import proofs.«01_k».proof.Proof.Values
public import proofs.«01_k».proof.Proof.Finite
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic.ValueIdx Idealize.SL.Sem
open Idealize.ShloMosaic hiding ix1 ix2 ix3

/-! ## The programs run -/

/-- The program and its idealization have one body table and one entry. -/
theorem defs_eq {F : FTy → Type} [FloatOps F] : Cert.Kernel.defs (F := F) = Cert.KernelIdeal.defs (F := F) := by sl_kernel_rfl
theorem main_eq {F : FTy → Type} [FloatOps F] : Cert.Kernel.main (F := F) = Cert.KernelIdeal.main (F := F) := by sl_kernel_rfl

theorem frame_kernelIdeal : Cert.quiescent_KernelIdeal := fun m ρ _ =>
  (θ_run (Cert.KernelIdeal.defs (F := Ideal)) _ _).mono (fun _ h => ⟨fun c => (h.1 c).2, h.2⟩) (RingIdeal.run_out (F := Ideal) m ρ)

theorem frame_kernelIdeal_finite : Cert.quiescent_KernelIdeal_pre_finite_inputs := fun m ρ _ => frame_kernelIdeal m ρ trivial

theorem frame_kernel : Cert.quiescent_Kernel := fun m ρ _ => by
  rw [defs_eq, main_eq]
  exact (θ_run (Cert.KernelIdeal.defs (F := Bits)) _ _).mono (fun _ h => ⟨fun c => (h.1 c).2, h.2⟩) (RingIdeal.run_out (F := Bits) m ρ)

/-- The reference declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_inputs := fun m ρ _ => frame_reference m ρ trivial

/-! ## The results agree -/

theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal_finite_inputs m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v25 m' c : Cert.ReferenceIdeal.S8192x2048.Idx → EReal) = RingIdeal.Y m c := by
  funext y
  obtain ⟨i, j, rfl⟩ : ∃ (i : Fin 8192) (j : Fin 2048), y = ix2 i j := ⟨y 0, y 1, by
    funext a
    match a with
    | ⟨0, _⟩ => rfl
    | ⟨1, _⟩ => rfl⟩
  have ht : RoundTrip.tokens m' c = RingIdeal.tokens m c := h0
  have hw : RoundTrip.weights m' c = RingIdeal.weights m c := h2
  obtain ⟨fh, f0, f1⟩ := Finite.finite_at _ _ _ (hp c) i j
  refine (RoundTrip.result_at m' c i j).trans (Eq.trans ?_ (RingIdeal.Y_at m c i j).symm)
  rw [ht, hw]
  exact (Finite.mul_sum (a := RingIdeal.tokens m c (ix2 i j)) (b := RingIdeal.weights m c (ix2 i 0)) (c := RingIdeal.weights m c (ix2 i 1)) fh f0 f1).symm

theorem algebraic : Cert.algebraic_KernelIdeal_ReferenceIdeal_pre_finite_inputs := fun m ρ m' ρ' hp hagree =>
  ⟨fun c => RingIdeal.Y m c,
    (θ_run (Cert.KernelIdeal.defs (F := Ideal)) _ _).mono (fun _ h c => h.1 c) (RingIdeal.run_out (F := Ideal) m ρ),
    (θ_run (Cert.ReferenceIdeal.defs (F := Ideal)) _ _).mono
      (fun _ h c => ⟨(h c).1.trans (results_eq m m' hp c (hagree c).1 (hagree c).2.2), (h c).2⟩) (Cert.ReferenceIdeal.Value.run (F := Ideal) m' ρ')⟩

theorem claim : Cert.Claim :=
  ⟨inferInstance, inferInstance, inferInstance, inferInstance,
    frame_kernel, frame_kernelIdeal, frame_kernelIdeal_finite, frame_reference, frame_reference_finite, trivial, algebraic⟩

end Cert.Proof

end
